-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v35)) (v3 : (c : Dev Cert.KernelIdeal.nD) → Buf (Elt Ideal) ((c.tc : Thread Cert.KernelIdeal.nD Cert.KernelIdeal.τ).loc Cert.KernelIdeal.main_v36)) (v4 : (c : Dev Cert.KernelIdeal.nD) → Buf (Elt Ideal) ((c.tc : Thread Cert.KernelIdeal.nD Cert.KernelIdeal.τ).loc Cert.KernelIdeal.main_v17_1)) (v5 : (c : Dev Cert.KernelIdeal.nD) → Buf (Elt Ideal) ((c.tc : Thread Cert.KernelIdeal.nD Cert.KernelIdeal.τ).loc Cert.KernelIdeal.main_v17_0)) (v6 : (c : Dev Cert.KernelIdeal.nD) → Buf (Elt Ideal) ((c.tc : Thread Cert.KernelIdeal.nD Cert.KernelIdeal.τ).loc Cert.KernelIdeal.main_v18_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_v36) = v3 c
          ∧ r.2.mem ((c.tc : Thread Cert.KernelIdeal.nD Cert.KernelIdeal.τ).loc Cert.KernelIdeal.main_v17_1) = v4 c
          ∧ r.2.mem ((c.tc : Thread Cert.KernelIdeal.nD Cert.KernelIdeal.τ).loc Cert.KernelIdeal.main_v17_0) = v5 c
          ∧ r.2.mem ((c.tc : Thread Cert.KernelIdeal.nD Cert.KernelIdeal.τ).loc Cert.KernelIdeal.main_v18_0) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_v106) = v4 c
          ∧ r.2.mem ((c.tc : Thread Cert.ReferenceIdeal.nD Cert.ReferenceIdeal.τ).loc Cert.ReferenceIdeal.main_v107) = v5 c
          ∧ r.2.mem ((c.tc : Thread Cert.ReferenceIdeal.nD Cert.ReferenceIdeal.τ).loc Cert.ReferenceIdeal.main_v108) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v10)) (v1 : (c : Dev Cert.Kernel2Ideal.nD) → Buf (Elt Ideal) ((c.tc : Thread Cert.Kernel2Ideal.nD Cert.Kernel2Ideal.τ).loc Cert.Kernel2Ideal.main_v16)) (v2 : (c : Dev Cert.Kernel2Ideal.nD) → Buf (Elt Ideal) ((c.tc : Thread Cert.Kernel2Ideal.nD Cert.Kernel2Ideal.τ).loc Cert.Kernel2Ideal.main_v3_1)) (v3 : (c : Dev Cert.Kernel2Ideal.nD) → Buf (Elt Ideal) ((c.tc : Thread Cert.Kernel2Ideal.nD Cert.Kernel2Ideal.τ).loc Cert.Kernel2Ideal.main_v8_1)) (v4 : (c : Dev Cert.Kernel2Ideal.nD) → Buf (Elt Ideal) ((c.tc : Thread Cert.Kernel2Ideal.nD Cert.Kernel2Ideal.τ).loc Cert.Kernel2Ideal.main_v3_0)) (v5 : (c : Dev Cert.Kernel2Ideal.nD) → Buf (Elt Ideal) ((c.tc : Thread Cert.Kernel2Ideal.nD Cert.Kernel2Ideal.τ).loc Cert.Kernel2Ideal.main_v8_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_v16) = v1 c
          ∧ r.2.mem ((c.tc : Thread Cert.Kernel2Ideal.nD Cert.Kernel2Ideal.τ).loc Cert.Kernel2Ideal.main_v3_1) = v2 c
          ∧ r.2.mem ((c.tc : Thread Cert.Kernel2Ideal.nD Cert.Kernel2Ideal.τ).loc Cert.Kernel2Ideal.main_v8_1) = v3 c
          ∧ r.2.mem ((c.tc : Thread Cert.Kernel2Ideal.nD Cert.Kernel2Ideal.τ).loc Cert.Kernel2Ideal.main_v3_0) = v4 c
          ∧ r.2.mem ((c.tc : Thread Cert.Kernel2Ideal.nD Cert.Kernel2Ideal.τ).loc Cert.Kernel2Ideal.main_v8_0) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_v69) = v1 c
          ∧ r.2.mem ((c.tc : Thread Cert.Reference2Ideal.nD Cert.Reference2Ideal.τ).loc Cert.Reference2Ideal.main_v70) = v2 c
          ∧ r.2.mem ((c.tc : Thread Cert.Reference2Ideal.nD Cert.Reference2Ideal.τ).loc Cert.Reference2Ideal.main_v71) = v3 c
          ∧ r.2.mem ((c.tc : Thread Cert.Reference2Ideal.nD Cert.Reference2Ideal.τ).loc Cert.Reference2Ideal.main_v73) = v4 c
          ∧ r.2.mem ((c.tc : Thread Cert.Reference2Ideal.nD Cert.Reference2Ideal.τ).loc Cert.Reference2Ideal.main_v75) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1_1)) (v1 : (c : Dev Cert.Kernel3Ideal.nD) → Buf (Elt Ideal) ((c.tc : Thread Cert.Kernel3Ideal.nD Cert.Kernel3Ideal.τ).loc Cert.Kernel3Ideal.main_v1_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_1) = v0 c
          ∧ r.2.mem ((c.tc : Thread Cert.Kernel3Ideal.nD Cert.Kernel3Ideal.τ).loc Cert.Kernel3Ideal.main_v1_0) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v6) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v16_0)) (v1 : (c : Dev Cert.Kernel6Ideal.nD) → Buf (Elt Ideal) ((c.tc : Thread Cert.Kernel6Ideal.nD Cert.Kernel6Ideal.τ).loc Cert.Kernel6Ideal.main_v16_1)) (v2 : (c : Dev Cert.Kernel6Ideal.nD) → Buf (Elt Ideal) ((c.tc : Thread Cert.Kernel6Ideal.nD Cert.Kernel6Ideal.τ).loc Cert.Kernel6Ideal.main_v16_2)) (v3 : (c : Dev Cert.Kernel6Ideal.nD) → Buf (Elt Ideal) ((c.tc : Thread Cert.Kernel6Ideal.nD Cert.Kernel6Ideal.τ).loc Cert.Kernel6Ideal.main_v18)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v16_0) = v0 c
          ∧ r.2.mem ((c.tc : Thread Cert.Kernel6Ideal.nD Cert.Kernel6Ideal.τ).loc Cert.Kernel6Ideal.main_v16_1) = v1 c
          ∧ r.2.mem ((c.tc : Thread Cert.Kernel6Ideal.nD Cert.Kernel6Ideal.τ).loc Cert.Kernel6Ideal.main_v16_2) = v2 c
          ∧ r.2.mem ((c.tc : Thread Cert.Kernel6Ideal.nD Cert.Kernel6Ideal.τ).loc Cert.Kernel6Ideal.main_v18) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v91) = v0 c
          ∧ r.2.mem ((c.tc : Thread Cert.Reference6Ideal.nD Cert.Reference6Ideal.τ).loc Cert.Reference6Ideal.main_v38) = v1 c
          ∧ r.2.mem ((c.tc : Thread Cert.Reference6Ideal.nD Cert.Reference6Ideal.τ).loc Cert.Reference6Ideal.main_v42) = v2 c
          ∧ r.2.mem ((c.tc : Thread Cert.Reference6Ideal.nD Cert.Reference6Ideal.τ).loc Cert.Reference6Ideal.main_v21) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  IdealRules.named_const.Statement Cert.Kernel7Ideal.κ "q_scale" .f32 0x3E0293EE#32 (((Real.sqrt 128)⁻¹ * (Real.log 2)⁻¹ : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Kernel.lean ====
abbrev S4x2048x4096 : Shape := ⟨3, ![4, 2048, 4096]⟩
abbrev S32x1x4096 : Shape := ⟨3, ![32, 1, 4096]⟩
abbrev S4x4096 : Shape := ⟨2, ![4, 4096]⟩
abbrev S32x4096 : Shape := ⟨2, ![32, 4096]⟩
abbrev S1x4096x24576 : Shape := ⟨3, ![1, 4096, 24576]⟩
abbrev S1x24576 : Shape := ⟨2, ![1, 24576]⟩
abbrev S1x4096 : Shape := ⟨2, ![1, 4096]⟩
abbrev S1x4096x12296 : Shape := ⟨3, ![1, 4096, 12296]⟩
abbrev S1x128 : Shape := ⟨2, ![1, 128]⟩
abbrev S8192x4096 : Shape := ⟨2, ![8192, 4096]⟩
abbrev S36x4096 : Shape := ⟨2, ![36, 4096]⟩
abbrev S_ : Shape := ⟨0, ![]⟩
abbrev S40x4096 : Shape := ⟨2, ![40, 4096]⟩
abbrev S4096x24576 : Shape := ⟨2, ![4096, 24576]⟩
abbrev S24576 : Shape := ⟨1, ![24576]⟩
abbrev S40x24576 : Shape := ⟨2, ![40, 24576]⟩
abbrev S4096x512 : Shape := ⟨2, ![4096, 512]⟩
abbrev S1x512 : Shape := ⟨2, ![1, 512]⟩
abbrev S40x512 : Shape := ⟨2, ![40, 512]⟩
abbrev S4096 : Shape := ⟨1, ![4096]⟩
abbrev S32 : Shape := ⟨1, ![32]⟩
abbrev S32x1 : Shape := ⟨2, ![32, 1]⟩
abbrev S1x12296x4096 : Shape := ⟨3, ![1, 12296, 4096]⟩
abbrev S12296x4096 : Shape := ⟨2, ![12296, 4096]⟩
abbrev S6152x4096 : Shape := ⟨2, ![6152, 4096]⟩
abbrev S32x6152 : Shape := ⟨2, ![32, 6152]⟩
abbrev S512x4096 : Shape := ⟨2, ![512, 4096]⟩
abbrev S32x512 : Shape := ⟨2, ![32, 512]⟩
abbrev S6144x4096 : Shape := ⟨2, ![6144, 4096]⟩
abbrev S32x6144 : Shape := ⟨2, ![32, 6144]⟩
abbrev S32x2048 : Shape := ⟨2, ![32, 2048]⟩
abbrev S128 : Shape := ⟨1, ![128]⟩
abbrev S32x128 : Shape := ⟨2, ![32, 128]⟩
abbrev S4x1x4096 : Shape := ⟨3, ![4, 1, 4096]⟩
abbrev S1x1x4096 : Shape := ⟨3, ![1, 1, 4096]⟩
abbrev S512 : Shape := ⟨1, ![512]⟩
abbrev S512x1 : Shape := ⟨2, ![512, 1]⟩
abbrev S8192x2048 : Shape := ⟨2, ![8192, 2048]⟩
abbrev S8192x16x128 : Shape := ⟨3, ![8192, 16, 128]⟩
abbrev S1024x4096 : Shape := ⟨2, ![1024, 4096]⟩
abbrev S512x1024 : Shape := ⟨2, ![512, 1024]⟩
abbrev S512x8x128 : Shape := ⟨3, ![512, 8, 128]⟩
abbrev S512x128 : Shape := ⟨2, ![512, 128]⟩
abbrev S512x1x128 : Shape := ⟨3, ![512, 1, 128]⟩
abbrev S1024x1024 : Shape := ⟨2, ![1024, 1024]⟩
abbrev S1x4x2048x8x2x128 : Shape := ⟨6, ![1, 4, 2048, 8, 2, 128]⟩
abbrev S1x4x2048x8x256 : Shape := ⟨5, ![1, 4, 2048, 8, 256]⟩
abbrev S1x32x1x8x2x128 : Shape := ⟨6, ![1, 32, 1, 8, 2, 128]⟩
abbrev S1x32x1x8x256 : Shape := ⟨5, ![1, 32, 1, 8, 256]⟩

abbrev nBuf : Space → Nat
  | .hbm => 51
  | .vmem => 53
  | .smem => 0
  | _ => 0

abbrev bufTy : (tb : Table) → Fin (tcTables nBuf tb) → BufTy
  | .hbm, ⟨0, _⟩ => ⟨S4x2048x4096, .f32⟩
  | .hbm, ⟨1, _⟩ => ⟨S32x1x4096, .f32⟩
  | .hbm, ⟨2, _⟩ => ⟨S4x4096, .f32⟩
  | .hbm, ⟨3, _⟩ => ⟨S32x4096, .f32⟩
  | .hbm, ⟨4, _⟩ => ⟨S1x4096x24576, .f32⟩
  | .hbm, ⟨5, _⟩ => ⟨S1x24576, .f32⟩
  | .hbm, ⟨6, _⟩ => ⟨S1x4096, .f32⟩
  | .hbm, ⟨7, _⟩ => ⟨S1x4096x12296, .f32⟩
  | .hbm, ⟨8, _⟩ => ⟨S1x128, .f32⟩
  | .hbm, ⟨9, _⟩ => ⟨S8192x4096, .f32⟩
  | .hbm, ⟨10, _⟩ => ⟨S32x4096, .f32⟩
  | .hbm, ⟨11, _⟩ => ⟨S36x4096, .f32⟩
  | .hbm, ⟨12, _⟩ => ⟨S_, .i32⟩
  | .hbm, ⟨13, _⟩ => ⟨S_, .f32⟩
  | .hbm, ⟨14, _⟩ => ⟨S40x4096, .f32⟩
  | .hbm, ⟨15, _⟩ => ⟨S4096x24576, .f32⟩
  | .hbm, ⟨16, _⟩ => ⟨S24576, .f32⟩
  | .hbm, ⟨17, _⟩ => ⟨S1x24576, .f32⟩
  | .hbm, ⟨18, _⟩ => ⟨S40x24576, .f32⟩
  | .hbm, ⟨19, _⟩ => ⟨S4x4096, .f32⟩
  | .hbm, ⟨20, _⟩ => ⟨S4x4096, .f32⟩
  | .hbm, ⟨21, _⟩ => ⟨S32x4096, .f32⟩
  | .hbm, ⟨22, _⟩ => ⟨S32x4096, .f32⟩
  | .hbm, ⟨23, _⟩ => ⟨S4096, .f32⟩
  | .hbm, ⟨24, _⟩ => ⟨S1x4096, .f32⟩
  | .hbm, ⟨25, _⟩ => ⟨S32x4096, .bf16⟩
  | .hbm, ⟨26, _⟩ => ⟨S1x12296x4096, .f32⟩
  | .hbm, ⟨27, _⟩ => ⟨S12296x4096, .f32⟩
  | .hbm, ⟨28, _⟩ => ⟨S6152x4096, .bf16⟩
  | .hbm, ⟨29, _⟩ => ⟨S32x6152, .f32⟩
  | .hbm, ⟨30, _⟩ => ⟨S6144x4096, .bf16⟩
  | .hbm, ⟨31, _⟩ => ⟨S32x6144, .f32⟩
  | .hbm, ⟨32, _⟩ => ⟨S32x2048, .f32⟩
  | .hbm, ⟨33, _⟩ => ⟨S128, .f32⟩
  | .hbm, ⟨34, _⟩ => ⟨S1x128, .f32⟩
  | .hbm, ⟨35, _⟩ => ⟨S32x2048, .f32⟩
  | .hbm, ⟨36, _⟩ => ⟨S32x2048, .f32⟩
  | .hbm, ⟨37, _⟩ => ⟨S4096, .f32⟩
  | .hbm, ⟨38, _⟩ => ⟨S4x1x4096, .f32⟩
  | .hbm, ⟨39, _⟩ => ⟨S4x1x4096, .f32⟩
  | .hbm, ⟨40, _⟩ => ⟨S1x4096, .f32⟩
  | .hbm, ⟨41, _⟩ => ⟨S8192x4096, .bf16⟩
  | .hbm, ⟨42, _⟩ => ⟨S128, .f32⟩
  | .hbm, ⟨43, _⟩ => ⟨S1x128, .f32⟩
  | .hbm, ⟨44, _⟩ => ⟨S8192x2048, .f32⟩
  | .hbm, ⟨45, _⟩ => ⟨S8192x16x128, .f32⟩
  | .hbm, ⟨46, _⟩ => ⟨S8192x2048, .f32⟩
  | .hbm, ⟨47, _⟩ => ⟨S1x4x2048x8x2x128, .f32⟩
  | .hbm, ⟨48, _⟩ => ⟨S1x4x2048x8x256, .f32⟩
  | .hbm, ⟨49, _⟩ => ⟨S1x32x1x8x2x128, .f32⟩
  | .hbm, ⟨50, _⟩ => ⟨S1x32x1x8x256, .f32⟩
  | .local _ .vmem, ⟨0, _⟩ => ⟨S40x4096, .f32⟩
  | .local _ .vmem, ⟨1, _⟩ => ⟨S4096x512, .f32⟩
  | .local _ .vmem, ⟨2, _⟩ => ⟨S4096x512, .f32⟩
  | .local _ .vmem, ⟨3, _⟩ => ⟨S1x512, .f32⟩
  | .local _ .vmem, ⟨4, _⟩ => ⟨S1x512, .f32⟩
  | .local _ .vmem, ⟨5, _⟩ => ⟨S40x512, .f32⟩
  | .local _ .vmem, ⟨6, _⟩ => ⟨S40x512, .f32⟩
  | .local _ .vmem, ⟨7, _⟩ => ⟨S32x4096, .f32⟩
  | .local _ .vmem, ⟨8, _⟩ => ⟨S1x4096, .f32⟩
  | .local _ .vmem, ⟨9, _⟩ => ⟨S32x4096, .f32⟩
  | .local _ .vmem, ⟨10, _⟩ => ⟨S32x4096, .f32⟩
  | .local _ .vmem, ⟨11, _⟩ => ⟨S32x4096, .bf16⟩
  | .local _ .vmem, ⟨12, _⟩ => ⟨S32x4096, .bf16⟩
  | .local _ .vmem, ⟨13, _⟩ => ⟨S512x4096, .f32⟩
  | .local _ .vmem, ⟨14, _⟩ => ⟨S512x4096, .f32⟩
  | .local _ .vmem, ⟨15, _⟩ => ⟨S512x4096, .bf16⟩
  | .local _ .vmem, ⟨16, _⟩ => ⟨S512x4096, .bf16⟩
  | .local _ .vmem, ⟨17, _⟩ => ⟨S32x512, .f32⟩
  | .local _ .vmem, ⟨18, _⟩ => ⟨S32x512, .f32⟩
  | .local _ .vmem, ⟨19, _⟩ => ⟨S32x4096, .bf16⟩
  | .local _ .vmem, ⟨20, _⟩ => ⟨S512x4096, .f32⟩
  | .local _ .vmem, ⟨21, _⟩ => ⟨S512x4096, .f32⟩
  | .local _ .vmem, ⟨22, _⟩ => ⟨S512x4096, .bf16⟩
  | .local _ .vmem, ⟨23, _⟩ => ⟨S512x4096, .bf16⟩
  | .local _ .vmem, ⟨24, _⟩ => ⟨S32x512, .f32⟩
  | .local _ .vmem, ⟨25, _⟩ => ⟨S32x512, .f32⟩
  | .local _ .vmem, ⟨26, _⟩ => ⟨S32x2048, .f32⟩
  | .local _ .vmem, ⟨27, _⟩ => ⟨S1x128, .f32⟩
  | .local _ .vmem, ⟨28, _⟩ => ⟨S32x2048, .f32⟩
  | .local _ .vmem, ⟨29, _⟩ => ⟨S512x4096, .f32⟩
  | .local _ .vmem, ⟨30, _⟩ => ⟨S512x4096, .f32⟩
  | .local _ .vmem, ⟨31, _⟩ => ⟨S1x4096, .f32⟩
  | .local _ .vmem, ⟨32, _⟩ => ⟨S1x1x4096, .f32⟩
  | .local _ .vmem, ⟨33, _⟩ => ⟨S1x1x4096, .f32⟩
  | .local _ .vmem, ⟨34, _⟩ => ⟨S1x1x4096, .f32⟩
  | .local _ .vmem, ⟨35, _⟩ => ⟨S1x1x4096, .f32⟩
  | .local _ .vmem, ⟨36, _⟩ => ⟨S512x4096, .bf16⟩
  | .local _ .vmem, ⟨37, _⟩ => ⟨S512x4096, .bf16⟩
  | .local _ .vmem, ⟨38, _⟩ => ⟨S512x4096, .bf16⟩
  | .local _ .vmem, ⟨39, _⟩ => ⟨S512x4096, .bf16⟩
  | .local _ .vmem, ⟨40, _⟩ => ⟨S1024x4096, .bf16⟩
  | .local _ .vmem, ⟨41, _⟩ => ⟨S1024x4096, .bf16⟩
  | .local _ .vmem, ⟨42, _⟩ => ⟨S1x128, .f32⟩
  | .local _ .vmem, ⟨43, _⟩ => ⟨S512x1024, .f32⟩
  | .local _ .vmem, ⟨44, _⟩ => ⟨S512x1024, .f32⟩
  | .local _ .vmem, ⟨45, _⟩ => ⟨S512x8x128, .f32⟩
  | .local _ .vmem, ⟨46, _⟩ => ⟨S512x8x128, .f32⟩
  | .local _ .vmem, ⟨47, _⟩ => ⟨S1024x4096, .bf16⟩
  | .local _ .vmem, ⟨48, _⟩ => ⟨S1024x4096, .bf16⟩
  | .local _ .vmem, ⟨49, _⟩ => ⟨S1024x4096, .bf16⟩
  | .local _ .vmem, ⟨50, _⟩ => ⟨S1024x4096, .bf16⟩
  | .local _ .vmem, ⟨51, _⟩ => ⟨S1024x1024, .f32⟩
  | .local _ .vmem, ⟨52, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_v18_0 : Ref sig .tc := ⟨.hbm, 30, rfl⟩
abbrev main_v18_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31_0 : Ref sig .tc := ⟨.hbm, 44, rfl⟩
abbrev main_v31_1 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg1_0 : Ref sig .tc := ⟨.vmem, 27, rfl⟩
abbrev cc4_stg2_0 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc5_stg3_0 : Ref sig .tc := ⟨.vmem, 34, rfl⟩
abbrev cc5_stg3_1 : Ref sig .tc := ⟨.vmem, 35, rfl⟩
abbrev cc5_stg4_0 : Ref sig .tc := ⟨.vmem, 36, rfl⟩
abbrev cc5_stg4_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg3_1 : Ref sig .tc := ⟨.vmem, 44, rfl⟩
abbrev cc6_stg4_0 : Ref sig .tc := ⟨.vmem, 45, rfl⟩
abbrev cc6_stg4_1 : Ref sig .tc := ⟨.vmem, 46, rfl⟩
abbrev cc7_stg0_0 : Ref sig .tc := ⟨.vmem, 47, rfl⟩
abbrev cc7_stg0_1 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem1_0 : DmaSem sig := 27
abbrev cc4_sem2_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc5_sem3_0 : DmaSem sig := 34
abbrev cc5_sem3_1 : DmaSem sig := 35
abbrev cc5_sem4_0 : DmaSem sig := 36
abbrev cc5_sem4_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem3_0 : DmaSem sig := 43
abbrev cc6_sem3_1 : DmaSem sig := 44
abbrev cc6_sem4_0 : DmaSem sig := 45
abbrev cc6_sem4_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem2_1 : DmaSem sig := 52

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S40x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S32x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S32x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S32x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev grid2 : Pipeline.Grid := ⟨2, ![13, 1], ![false, false]⟩

def k2_mult1 (i : grid2.Coords) : BitVec 32 :=
  let c0_i32 : BitVec 32 := 0#32
  let arg0 : BitVec 32 := BitVec.ofNat 32 (i 0).val
  let c512_i32 : BitVec 32 := 512#32
  let v0 : BitVec 32 := Scalar.muli arg0 c512_i32
  let v1 : BitVec 32 := Scalar.addi c0_i32 v0
  v1
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c0_i32 : BitVec 32 := 0#32
  let v1 : BitVec 32 := Scalar.addi c0_i32 v0
  let v2 : BitVec 32 := v1
  let c4096_i32 : BitVec 32 := 4096#32
  let v3 : BitVec 32 := Scalar.muli arg1 c4096_i32
  let c0_i32_0 : BitVec 32 := 0#32
  ![v2.toNat, v3.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 1 → Memref sig .tc .vmem S32x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S32x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![12, 1], ![false, false]⟩

def k3_mult1 (i : grid3.Coords) : BitVec 32 :=
  let c6152_i32 : BitVec 32 := 6152#32
  let arg0 : BitVec 32 := BitVec.ofNat 32 (i 0).val
  let c512_i32 : BitVec 32 := 512#32
  let v0 : BitVec 32 := Scalar.muli arg0 c512_i32
  let v1 : BitVec 32 := Scalar.addi c6152_i32 v0
  v1
def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c6152_i32 : BitVec 32 := 6152#32
  let v1 : BitVec 32 := Scalar.addi c6152_i32 v0
  let v2 : BitVec 32 := v1
  let c4096_i32 : BitVec 32 := 4096#32
  let v3 : BitVec 32 := Scalar.muli arg1 c4096_i32
  let c0_i32 : BitVec 32 := 0#32
  ![v2.toNat, v3.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 1 → Memref sig .tc .vmem S32x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, true]

abbrev stage3_1 : Fin 2 → Memref sig .tc .vmem S512x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S512x4096 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S32x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S32x2048 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc5_transform_3 (i : grid5.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x4096 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x4096 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S1x1x4096 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1x1x4096 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S512x4096 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨3, ![16, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![v0.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_4 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage6_0 : Fin 2 → Memref sig .tc .vmem S512x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S1024x4096 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false, false]

abbrev stage6_3 : Fin 2 → Memref sig .tc .vmem S512x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]

abbrev stage6_4 : Fin 2 → Memref sig .tc .vmem S512x8x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, true, false]

abbrev grid7 : Pipeline.Grid := ⟨3, ![8, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![v0.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S1024x4096 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]
-- ==== ReferenceIdeal.lean ====
abbrev S4x2048x4096 : Shape := ⟨3, ![4, 2048, 4096]⟩
abbrev S32x1x4096 : Shape := ⟨3, ![32, 1, 4096]⟩
abbrev S4x4096 : Shape := ⟨2, ![4, 4096]⟩
abbrev S32x4096 : Shape := ⟨2, ![32, 4096]⟩
abbrev S1x4096x24576 : Shape := ⟨3, ![1, 4096, 24576]⟩
abbrev S1x24576 : Shape := ⟨2, ![1, 24576]⟩
abbrev S1x4096 : Shape := ⟨2, ![1, 4096]⟩
abbrev S1x4096x12296 : Shape := ⟨3, ![1, 4096, 12296]⟩
abbrev S1x128 : Shape := ⟨2, ![1, 128]⟩
abbrev S4096x24576 : Shape := ⟨2, ![4096, 24576]⟩
abbrev S24576 : Shape := ⟨1, ![24576]⟩
abbrev S4096 : Shape := ⟨1, ![4096]⟩
abbrev S4096x12296 : Shape := ⟨2, ![4096, 12296]⟩
abbrev S_ : Shape := ⟨0, ![]⟩
abbrev S4x24576 : Shape := ⟨2, ![4, 24576]⟩
abbrev S4x1x24576 : Shape := ⟨3, ![4, 1, 24576]⟩
abbrev S4x1x4096 : Shape := ⟨3, ![4, 1, 4096]⟩
abbrev S4x2048 : Shape := ⟨2, ![4, 2048]⟩
abbrev S4x2048x1 : Shape := ⟨3, ![4, 2048, 1]⟩
abbrev S1x1x4096 : Shape := ⟨3, ![1, 1, 4096]⟩
abbrev S4x2048x12296 : Shape := ⟨3, ![4, 2048, 12296]⟩
abbrev S4x2048x2048 : Shape := ⟨3, ![4, 2048, 2048]⟩
abbrev S4x2048x8x2x128 : Shape := ⟨5, ![4, 2048, 8, 2, 128]⟩
abbrev S128 : Shape := ⟨1, ![128]⟩
abbrev S4x2048x8x2 : Shape := ⟨4, ![4, 2048, 8, 2]⟩
abbrev S4x2048x8x2x1 : Shape := ⟨5, ![4, 2048, 8, 2, 1]⟩
abbrev S1x1x1x1x128 : Shape := ⟨5, ![1, 1, 1, 1, 128]⟩
abbrev S4x2048x8x256 : Shape := ⟨4, ![4, 2048, 8, 256]⟩
abbrev S1x4x2048x8x2x128 : Shape := ⟨6, ![1, 4, 2048, 8, 2, 128]⟩
abbrev S1x4x2048x8x256 : Shape := ⟨5, ![1, 4, 2048, 8, 256]⟩
abbrev S32x24576 : Shape := ⟨2, ![32, 24576]⟩
abbrev S32x1x24576 : Shape := ⟨3, ![32, 1, 24576]⟩
abbrev S32x1 : Shape := ⟨2, ![32, 1]⟩
abbrev S32x1x1 : Shape := ⟨3, ![32, 1, 1]⟩
abbrev S32x1x12296 : Shape := ⟨3, ![32, 1, 12296]⟩
abbrev S32x1x2048 : Shape := ⟨3, ![32, 1, 2048]⟩
abbrev S32x1x8x2x128 : Shape := ⟨5, ![32, 1, 8, 2, 128]⟩
abbrev S32x1x8x2 : Shape := ⟨4, ![32, 1, 8, 2]⟩
abbrev S32x1x8x2x1 : Shape := ⟨5, ![32, 1, 8, 2, 1]⟩
abbrev S32x1x8x256 : Shape := ⟨4, ![32, 1, 8, 256]⟩
abbrev S1x32x1x8x2x128 : Shape := ⟨6, ![1, 32, 1, 8, 2, 128]⟩
abbrev S1x32x1x8x256 : Shape := ⟨5, ![1, 32, 1, 8, 256]⟩
abbrev S12296x4096 : Shape := ⟨2, ![12296, 4096]⟩
abbrev S32x1x6152 : Shape := ⟨3, ![32, 1, 6152]⟩
abbrev S32x6152 : Shape := ⟨2, ![32, 6152]⟩
abbrev S6152x4096 : Shape := ⟨2, ![6152, 4096]⟩
abbrev S6144x4096 : Shape := ⟨2, ![6144, 4096]⟩

abbrev nBuf : Space → Nat
  | .hbm => 148
  | .vmem => 0
  | .smem => 0
  | _ => 0

abbrev hbmTy0_0 (i : Nat) : BufTy := match i % 128 with
  | 0 => ⟨S4x2048x4096, .f32⟩
  | 1 => ⟨S32x1x4096, .f32⟩
  | 2 => ⟨S4x4096, .f32⟩
  | 3 => ⟨S32x4096, .f32⟩
  | 4 => ⟨S1x4096x24576, .f32⟩
  | 5 => ⟨S1x24576, .f32⟩
  | 6 => ⟨S1x4096, .f32⟩
  | 7 => ⟨S1x4096x12296, .f32⟩
  | 8 => ⟨S1x128, .f32⟩
  | 9 => ⟨S4096x24576, .f32⟩
  | 10 => ⟨S24576, .f32⟩
  | 11 => ⟨S4096, .f32⟩
  | 12 => ⟨S4096x12296, .f32⟩
  | 13 => ⟨S4x4096, .f32⟩
  | 14 => ⟨S4x4096, .f32⟩
  | 15 => ⟨S_, .f32⟩
  | 16 => ⟨S4x4096, .f32⟩
  | 17 => ⟨S4x4096, .f32⟩
  | 18 => ⟨S_, .f32⟩
  | 19 => ⟨S4x4096, .f32⟩
  | 20 => ⟨S4x4096, .f32⟩
  | 21 => ⟨S4x4096, .f32⟩
  | 22 => ⟨S4x24576, .f32⟩
  | 23 => ⟨S1x24576, .f32⟩
  | 24 => ⟨S4x24576, .f32⟩
  | 25 => ⟨S4x24576, .f32⟩
  | 26 => ⟨S4x1x24576, .f32⟩
  | 27 => ⟨S4x1x4096, .f32⟩
  | 28 => ⟨S4x1x4096, .f32⟩
  | 29 => ⟨S4x2048x4096, .f32⟩
  | 30 => ⟨S_, .f32⟩
  | 31 => ⟨S4x2048, .f32⟩
  | 32 => ⟨S4x2048x1, .f32⟩
  | 33 => ⟨S_, .f32⟩
  | 34 => ⟨S4x2048x1, .f32⟩
  | 35 => ⟨S4x2048x1, .f32⟩
  | 36 => ⟨S_, .f32⟩
  | 37 => ⟨S4x2048x1, .f32⟩
  | 38 => ⟨S4x2048x1, .f32⟩
  | 39 => ⟨S4x2048x1, .f32⟩
  | 40 => ⟨S4x2048x4096, .f32⟩
  | 41 => ⟨S4x2048x4096, .f32⟩
  | 42 => ⟨S1x1x4096, .f32⟩
  | 43 => ⟨S4x2048x4096, .f32⟩
  | 44 => ⟨S4x2048x4096, .f32⟩
  | 45 => ⟨S_, .f32⟩
  | 46 => ⟨S4x1x4096, .f32⟩
  | 47 => ⟨S4x1x4096, .f32⟩
  | 48 => ⟨S4x2048x4096, .f32⟩
  | 49 => ⟨S4x2048x4096, .f32⟩
  | 50 => ⟨S4x2048x4096, .f32⟩
  | 51 => ⟨S4x2048x4096, .f32⟩
  | 52 => ⟨S4x2048x12296, .f32⟩
  | 53 => ⟨S4x2048x2048, .f32⟩
  | 54 => ⟨S4x2048x8x2x128, .f32⟩
  | 55 => ⟨S128, .f32⟩
  | 56 => ⟨S4x2048x8x2x128, .f32⟩
  | 57 => ⟨S_, .f32⟩
  | 58 => ⟨S4x2048x8x2, .f32⟩
  | 59 => ⟨S4x2048x8x2x1, .f32⟩
  | 60 => ⟨S_, .f32⟩
  | 61 => ⟨S4x2048x8x2x1, .f32⟩
  | 62 => ⟨S4x2048x8x2x1, .f32⟩
  | 63 => ⟨S_, .f32⟩
  | 64 => ⟨S4x2048x8x2x1, .f32⟩
  | 65 => ⟨S4x2048x8x2x1, .f32⟩
  | 66 => ⟨S4x2048x8x2x1, .f32⟩
  | 67 => ⟨S4x2048x8x2x128, .f32⟩
  | 68 => ⟨S4x2048x8x2x128, .f32⟩
  | 69 => ⟨S1x1x1x1x128, .f32⟩
  | 70 => ⟨S4x2048x8x2x128, .f32⟩
  | 71 => ⟨S4x2048x8x2x128, .f32⟩
  | 72 => ⟨S4x2048x2048, .f32⟩
  | 73 => ⟨S4x2048x8x256, .f32⟩
  | 74 => ⟨S1x4x2048x8x2x128, .f32⟩
  | 75 => ⟨S1x4x2048x8x256, .f32⟩
  | 76 => ⟨S4096x24576, .f32⟩
  | 77 => ⟨S24576, .f32⟩
  | 78 => ⟨S4096, .f32⟩
  | 79 => ⟨S4096x12296, .f32⟩
  | 80 => ⟨S32x4096, .f32⟩
  | 81 => ⟨S32x4096, .f32⟩
  | 82 => ⟨S_, .f32⟩
  | 83 => ⟨S32x4096, .f32⟩
  | 84 => ⟨S32x4096, .f32⟩
  | 85 => ⟨S_, .f32⟩
  | 86 => ⟨S32x4096, .f32⟩
  | 87 => ⟨S32x4096, .f32⟩
  | 88 => ⟨S32x4096, .f32⟩
  | 89 => ⟨S32x24576, .f32⟩
  | 90 => ⟨S1x24576, .f32⟩
  | 91 => ⟨S32x24576, .f32⟩
  | 92 => ⟨S32x24576, .f32⟩
  | 93 => ⟨S32x1x24576, .f32⟩
  | 94 => ⟨S32x1x4096, .f32⟩
  | 95 => ⟨S32x1x4096, .f32⟩
  | 96 => ⟨S32x1x4096, .f32⟩
  | 97 => ⟨S_, .f32⟩
  | 98 => ⟨S32x1, .f32⟩
  | 99 => ⟨S32x1x1, .f32⟩
  | 100 => ⟨S_, .f32⟩
  | 101 => ⟨S32x1x1, .f32⟩
  | 102 => ⟨S32x1x1, .f32⟩
  | 103 => ⟨S_, .f32⟩
  | 104 => ⟨S32x1x1, .f32⟩
  | 105 => ⟨S32x1x1, .f32⟩
  | 106 => ⟨S32x1x1, .f32⟩
  | 107 => ⟨S32x1x4096, .f32⟩
  | 108 => ⟨S32x1x4096, .f32⟩
  | 109 => ⟨S1x1x4096, .f32⟩
  | 110 => ⟨S32x1x4096, .f32⟩
  | 111 => ⟨S32x1x4096, .f32⟩
  | 112 => ⟨S_, .f32⟩
  | 113 => ⟨S32x1x4096, .f32⟩
  | 114 => ⟨S32x1x4096, .f32⟩
  | 115 => ⟨S32x1x4096, .f32⟩
  | 116 => ⟨S32x1x4096, .f32⟩
  | 117 => ⟨S32x1x12296, .f32⟩
  | 118 => ⟨S32x1x2048, .f32⟩
  | 119 => ⟨S32x1x8x2x128, .f32⟩
  | 120 => ⟨S128, .f32⟩
  | 121 => ⟨S32x1x8x2x128, .f32⟩
  | 122 => ⟨S_, .f32⟩
  | 123 => ⟨S32x1x8x2, .f32⟩
  | 124 => ⟨S32x1x8x2x1, .f32⟩
  | 125 => ⟨S_, .f32⟩
  | 126 => ⟨S32x1x8x2x1, .f32⟩
  | 127 => ⟨S32x1x8x2x1, .f32⟩
  | _ => ⟨S4x2048x4096, .f32⟩

abbrev hbmTy0_1 (i : Nat) : BufTy := match i % 128 with
  | 0 => ⟨S_, .f32⟩
  | 1 => ⟨S32x1x8x2x1, .f32⟩
  | 2 => ⟨S32x1x8x2x1, .f32⟩
  | 3 => ⟨S32x1x8x2x1, .f32⟩
  | 4 => ⟨S32x1x8x2x128, .f32⟩
  | 5 => ⟨S32x1x8x2x128, .f32⟩
  | 6 => ⟨S1x1x1x1x128, .f32⟩
  | 7 => ⟨S32x1x8x2x128, .f32⟩
  | 8 => ⟨S32x1x8x2x128, .f32⟩
  | 9 => ⟨S32x1x2048, .f32⟩
  | 10 => ⟨S32x1x8x256, .f32⟩
  | 11 => ⟨S1x32x1x8x2x128, .f32⟩
  | 12 => ⟨S1x32x1x8x256, .f32⟩
  | 13 => ⟨S4096x12296, .f32⟩
  | 14 => ⟨S12296x4096, .f32⟩
  | 15 => ⟨S12296x4096, .bf16⟩
  | 16 => ⟨S32x1x6152, .f32⟩
  | 17 => ⟨S32x6152, .f32⟩
  | 18 => ⟨S6152x4096, .bf16⟩
  | 19 => ⟨S6144x4096, .bf16⟩
  | _ => ⟨S4x2048x4096, .f32⟩

abbrev hbmTy (i : Nat) : BufTy := match i / 128 with
  | 0 => hbmTy0_0 i
  | 1 => hbmTy0_1 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_3 : Ref sig .tc := ⟨.hbm, 57, rfl⟩
abbrev main_v36 : Ref sig .tc := ⟨.hbm, 58, rfl⟩
abbrev main_v37 : Ref sig .tc := ⟨.hbm, 59, rfl⟩
abbrev main_cst_4 : Ref sig .tc := ⟨.hbm, 60, rfl⟩
abbrev main_v38 : Ref sig .tc := ⟨.hbm, 61, rfl⟩
abbrev main_v39 : Ref sig .tc := ⟨.hbm, 62, rfl⟩
abbrev main_cst_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_6 : Ref sig .tc := ⟨.hbm, 97, rfl⟩
abbrev main_v65 : Ref sig .tc := ⟨.hbm, 98, rfl⟩
abbrev main_v66 : Ref sig .tc := ⟨.hbm, 99, rfl⟩
abbrev main_cst_7 : Ref sig .tc := ⟨.hbm, 100, rfl⟩
abbrev main_v67 : Ref sig .tc := ⟨.hbm, 101, rfl⟩
abbrev main_v68 : Ref sig .tc := ⟨.hbm, 102, rfl⟩
abbrev main_cst_8 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_9 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_10 : Ref sig .tc := ⟨.hbm, 122, rfl⟩
abbrev main_v86 : Ref sig .tc := ⟨.hbm, 123, rfl⟩
abbrev main_v87 : Ref sig .tc := ⟨.hbm, 124, rfl⟩
abbrev main_cst_11 : Ref sig .tc := ⟨.hbm, 125, rfl⟩
abbrev main_v88 : Ref sig .tc := ⟨.hbm, 126, rfl⟩
abbrev main_v89 : Ref sig .tc := ⟨.hbm, 127, rfl⟩
abbrev main_cst_12 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩

abbrev nD : Nat := 1
abbrev τ : Topo := Topo.v7x

variable {F : FTy → Type} [FloatOps F]
-- ==== Kernel2.lean ====
abbrev S32x4096 : Shape := ⟨2, ![32, 4096]⟩
abbrev S32x1x4096 : Shape := ⟨3, ![32, 1, 4096]⟩
abbrev S8192x2048 : Shape := ⟨2, ![8192, 2048]⟩
abbrev S4x2048x4096 : Shape := ⟨3, ![4, 2048, 4096]⟩
abbrev S4x4096 : Shape := ⟨2, ![4, 4096]⟩
abbrev S1x4096x4096 : Shape := ⟨3, ![1, 4096, 4096]⟩
abbrev S1x4096 : Shape := ⟨2, ![1, 4096]⟩
abbrev S1x4096x16384 : Shape := ⟨3, ![1, 4096, 16384]⟩
abbrev S8192x4096 : Shape := ⟨2, ![8192, 4096]⟩
abbrev S4096x4096 : Shape := ⟨2, ![4096, 4096]⟩
abbrev S4096x512 : Shape := ⟨2, ![4096, 512]⟩
abbrev S32x512 : Shape := ⟨2, ![32, 512]⟩
abbrev S4096 : Shape := ⟨1, ![4096]⟩
abbrev S32 : Shape := ⟨1, ![32]⟩
abbrev S32x1 : Shape := ⟨2, ![32, 1]⟩
abbrev S4096x16384 : Shape := ⟨2, ![4096, 16384]⟩
abbrev S32x16384 : Shape := ⟨2, ![32, 16384]⟩
abbrev S4x1x4096 : Shape := ⟨3, ![4, 1, 4096]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩
abbrev S512x4096 : Shape := ⟨2, ![512, 4096]⟩
abbrev S1x1x4096 : Shape := ⟨3, ![1, 1, 4096]⟩
abbrev S512 : Shape := ⟨1, ![512]⟩
abbrev S512x1 : Shape := ⟨2, ![512, 1]⟩
abbrev S8192x16384 : Shape := ⟨2, ![8192, 16384]⟩
abbrev S1024x4096 : Shape := ⟨2, ![1024, 4096]⟩
abbrev S4096x1024 : Shape := ⟨2, ![4096, 1024]⟩

abbrev nBuf : Space → Nat
  | .hbm => 33
  | .vmem => 52
  | .smem => 0
  | _ => 0

abbrev bufTy : (tb : Table) → Fin (tcTables nBuf tb) → BufTy
  | .hbm, ⟨0, _⟩ => ⟨S32x4096, .bf16⟩
  | .hbm, ⟨1, _⟩ => ⟨S32x1x4096, .f32⟩
  | .hbm, ⟨2, _⟩ => ⟨S32x4096, .f32⟩
  | .hbm, ⟨3, _⟩ => ⟨S32x4096, .f32⟩
  | .hbm, ⟨4, _⟩ => ⟨S32x4096, .f32⟩
  | .hbm, ⟨5, _⟩ => ⟨S8192x2048, .bf16⟩
  | .hbm, ⟨6, _⟩ => ⟨S8192x2048, .bf16⟩
  | .hbm, ⟨7, _⟩ => ⟨S4x2048x4096, .f32⟩
  | .hbm, ⟨8, _⟩ => ⟨S4x4096, .f32⟩
  | .hbm, ⟨9, _⟩ => ⟨S4x4096, .f32⟩
  | .hbm, ⟨10, _⟩ => ⟨S4x4096, .f32⟩
  | .hbm, ⟨11, _⟩ => ⟨S1x4096x4096, .f32⟩
  | .hbm, ⟨12, _⟩ => ⟨S1x4096, .f32⟩
  | .hbm, ⟨13, _⟩ => ⟨S1x4096x16384, .f32⟩
  | .hbm, ⟨14, _⟩ => ⟨S8192x4096, .f32⟩
  | .hbm, ⟨15, _⟩ => ⟨S32x4096, .f32⟩
  | .hbm, ⟨16, _⟩ => ⟨S4096x4096, .f32⟩
  | .hbm, ⟨17, _⟩ => ⟨S4096x4096, .bf16⟩
  | .hbm, ⟨18, _⟩ => ⟨S32x4096, .f32⟩
  | .hbm, ⟨19, _⟩ => ⟨S4096, .f32⟩
  | .hbm, ⟨20, _⟩ => ⟨S1x4096, .f32⟩
  | .hbm, ⟨21, _⟩ => ⟨S32x4096, .bf16⟩
  | .hbm, ⟨22, _⟩ => ⟨S4096x16384, .f32⟩
  | .hbm, ⟨23, _⟩ => ⟨S4096x16384, .bf16⟩
  | .hbm, ⟨24, _⟩ => ⟨S32x16384, .bf16⟩
  | .hbm, ⟨25, _⟩ => ⟨S4x1x4096, .f32⟩
  | .hbm, ⟨26, _⟩ => ⟨S8192x4096, .f32⟩
  | .hbm, ⟨27, _⟩ => ⟨S4096, .f32⟩
  | .hbm, ⟨28, _⟩ => ⟨S4x1x4096, .f32⟩
  | .hbm, ⟨29, _⟩ => ⟨S4x1x4096, .f32⟩
  | .hbm, ⟨30, _⟩ => ⟨S1x4096, .f32⟩
  | .hbm, ⟨31, _⟩ => ⟨S8192x4096, .bf16⟩
  | .hbm, ⟨32, _⟩ => ⟨S8192x16384, .bf16⟩
  | .local _ .vmem, ⟨0, _⟩ => ⟨S32x4096, .bf16⟩
  | .local _ .vmem, ⟨1, _⟩ => ⟨S4096x512, .f32⟩
  | .local _ .vmem, ⟨2, _⟩ => ⟨S4096x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S4096x512, .bf16⟩
  | .local _ .vmem, ⟨8, _⟩ => ⟨S4096x512, .bf16⟩
  | .local _ .vmem, ⟨9, _⟩ => ⟨S32x512, .f32⟩
  | .local _ .vmem, ⟨10, _⟩ => ⟨S32x512, .f32⟩
  | .local _ .vmem, ⟨11, _⟩ => ⟨S32x4096, .f32⟩
  | .local _ .vmem, ⟨12, _⟩ => ⟨S1x4096, .f32⟩
  | .local _ .vmem, ⟨13, _⟩ => ⟨S32x4096, .f32⟩
  | .local _ .vmem, ⟨14, _⟩ => ⟨S32x4096, .f32⟩
  | .local _ .vmem, ⟨15, _⟩ => ⟨S32x4096, .bf16⟩
  | .local _ .vmem, ⟨16, _⟩ => ⟨S32x4096, .bf16⟩
  | .local _ .vmem, ⟨17, _⟩ => ⟨S4096x512, .f32⟩
  | .local _ .vmem, ⟨18, _⟩ => ⟨S4096x512, .f32⟩
  | .local _ .vmem, ⟨19, _⟩ => ⟨S4096x512, .bf16⟩
  | .local _ .vmem, ⟨20, _⟩ => ⟨S4096x512, .bf16⟩
  | .local _ .vmem, ⟨21, _⟩ => ⟨S32x512, .bf16⟩
  | .local _ .vmem, ⟨22, _⟩ => ⟨S32x512, .bf16⟩
  | .local _ .vmem, ⟨23, _⟩ => ⟨S1024x2048, .bf16⟩
  | .local _ .vmem, ⟨24, _⟩ => ⟨S1024x2048, .bf16⟩
  | .local _ .vmem, ⟨25, _⟩ => ⟨S2048x1024, .bf16⟩
  | .local _ .vmem, ⟨26, _⟩ => ⟨S2048x1024, .bf16⟩
  | .local _ .vmem, ⟨27, _⟩ => ⟨S1024x2048, .bf16⟩
  | .local _ .vmem, ⟨28, _⟩ => ⟨S1024x2048, .bf16⟩
  | .local _ .vmem, ⟨29, _⟩ => ⟨S2048x1024, .bf16⟩
  | .local _ .vmem, ⟨30, _⟩ => ⟨S2048x1024, .bf16⟩
  | .local _ .vmem, ⟨31, _⟩ => ⟨S1024x1024, .f32⟩
  | .local _ .vmem, ⟨32, _⟩ => ⟨S1024x1024, .f32⟩
  | .local _ .vmem, ⟨33, _⟩ => ⟨S1x1x1024, .f32⟩
  | .local _ .vmem, ⟨34, _⟩ => ⟨S1x1x1024, .f32⟩
  | .local _ .vmem, ⟨35, _⟩ => ⟨S1024x1024, .f32⟩
  | .local _ .vmem, ⟨36, _⟩ => ⟨S1024x1024, .f32⟩
  | .local _ .vmem, ⟨37, _⟩ => ⟨S512x4096, .f32⟩
  | .local _ .vmem, ⟨38, _⟩ => ⟨S512x4096, .f32⟩
  | .local _ .vmem, ⟨39, _⟩ => ⟨S1x4096, .f32⟩
  | .local _ .vmem, ⟨40, _⟩ => ⟨S1x1x4096, .f32⟩
  | .local _ .vmem, ⟨41, _⟩ => ⟨S1x1x4096, .f32⟩
  | .local _ .vmem, ⟨42, _⟩ => ⟨S1x1x4096, .f32⟩
  | .local _ .vmem, ⟨43, _⟩ => ⟨S1x1x4096, .f32⟩
  | .local _ .vmem, ⟨44, _⟩ => ⟨S512x4096, .bf16⟩
  | .local _ .vmem, ⟨45, _⟩ => ⟨S512x4096, .bf16⟩
  | .local _ .vmem, ⟨46, _⟩ => ⟨S1024x4096, .bf16⟩
  | .local _ .vmem, ⟨47, _⟩ => ⟨S1024x4096, .bf16⟩
  | .local _ .vmem, ⟨48, _⟩ => ⟨S4096x1024, .bf16⟩
  | .local _ .vmem, ⟨49, _⟩ => ⟨S4096x1024, .bf16⟩
  | .local _ .vmem, ⟨50, _⟩ => ⟨S1024x1024, .bf16⟩
  | .local _ .vmem, ⟨51, _⟩ => ⟨S1024x1024, .bf16⟩
  | _, _ => ⟨S32x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg4_1 : Ref sig .tc := ⟨.vmem, 32, rfl⟩
abbrev cc3_stg5_0 : Ref sig .tc := ⟨.vmem, 33, rfl⟩
abbrev cc3_stg5_1 : Ref sig .tc := ⟨.vmem, 34, rfl⟩
abbrev cc3_stg6_0 : Ref sig .tc := ⟨.vmem, 35, rfl⟩
abbrev cc3_stg6_1 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_stg4_0 : Ref sig .tc := ⟨.vmem, 44, rfl⟩
abbrev cc4_stg4_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg1_1 : Ref sig .tc := ⟨.vmem, 49, rfl⟩
abbrev cc5_stg2_0 : Ref sig .tc := ⟨.vmem, 50, rfl⟩
abbrev cc5_stg2_1 : Ref sig .tc := ⟨.vmem, 51, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem4_0 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc3_sem4_0 : DmaSem sig := 31
abbrev cc3_sem4_1 : DmaSem sig := 32
abbrev cc3_sem5_0 : DmaSem sig := 33
abbrev cc3_sem5_1 : DmaSem sig := 34
abbrev cc3_sem6_0 : DmaSem sig := 35
abbrev cc3_sem6_1 : DmaSem sig := 36
abbrev cc4_sem0_0 : DmaSem sig := 37
abbrev cc4_sem0_1 : DmaSem sig := 38
abbrev cc4_sem1_0 : DmaSem sig := 39
abbrev cc4_sem2_0 : DmaSem sig := 40
abbrev cc4_sem2_1 : DmaSem sig := 41
abbrev cc4_sem3_0 : DmaSem sig := 42
abbrev cc4_sem3_1 : DmaSem sig := 43
abbrev cc4_sem4_0 : DmaSem sig := 44
abbrev cc4_sem4_1 : DmaSem sig := 45
abbrev cc5_sem0_0 : DmaSem sig := 46
abbrev cc5_sem0_1 : DmaSem sig := 47
abbrev cc5_sem1_0 : DmaSem sig := 48
abbrev cc5_sem1_1 : DmaSem sig := 49
abbrev cc5_sem2_0 : DmaSem sig := 50
abbrev cc5_sem2_1 : DmaSem sig := 51

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S32x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev stage1_3 : Fin 1 → Memref sig .tc .vmem S32x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]

abbrev stage1_4 : Fin 1 → Memref sig .tc .vmem S32x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true]

abbrev grid2 : Pipeline.Grid := ⟨2, ![32, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 1 → Memref sig .tc .vmem S32x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, true]

abbrev stage2_1 : Fin 2 → Memref sig .tc .vmem S4096x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S4096x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S32x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨3, ![8, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![v0.toNat, arg1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc3_transform_6 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S2048x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true, true]

abbrev stage3_4 : Fin 2 → Memref sig .tc .vmem S1024x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S1x1x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev stage3_6 : Fin 2 → Memref sig .tc .vmem S1024x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc4_transform_3 (i : grid4.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x1x4096 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x1x4096 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S512x4096 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨3, ![8, 16, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference2Ideal.lean ====
abbrev S32x4096 : Shape := ⟨2, ![32, 4096]⟩
abbrev S32x1x4096 : Shape := ⟨3, ![32, 1, 4096]⟩
abbrev S8192x2048 : Shape := ⟨2, ![8192, 2048]⟩
abbrev S4x2048x4096 : Shape := ⟨3, ![4, 2048, 4096]⟩
abbrev S4x4096 : Shape := ⟨2, ![4, 4096]⟩
abbrev S1x4096x4096 : Shape := ⟨3, ![1, 4096, 4096]⟩
abbrev S1x4096 : Shape := ⟨2, ![1, 4096]⟩
abbrev S1x4096x16384 : Shape := ⟨3, ![1, 4096, 16384]⟩
abbrev S8192x4096 : Shape := ⟨2, ![8192, 4096]⟩
abbrev S4096x4096 : Shape := ⟨2, ![4096, 4096]⟩
abbrev S4096 : Shape := ⟨1, ![4096]⟩
abbrev S4096x16384 : Shape := ⟨2, ![4096, 16384]⟩
abbrev S4x1x4096 : Shape := ⟨3, ![4, 1, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x2048x16384 : Shape := ⟨3, ![4, 2048, 16384]⟩
abbrev S32x1 : Shape := ⟨2, ![32, 1]⟩
abbrev S32x1x1 : Shape := ⟨3, ![32, 1, 1]⟩
abbrev S32x1x16384 : Shape := ⟨3, ![32, 1, 16384]⟩
abbrev S8192x16384 : Shape := ⟨2, ![8192, 16384]⟩
abbrev S32x16384 : Shape := ⟨2, ![32, 16384]⟩

abbrev nBuf : Space → Nat
  | .hbm => 102
  | .vmem => 0
  | .smem => 0
  | _ => 0

abbrev bufTy : (tb : Table) → Fin (tcTables nBuf tb) → BufTy
  | .hbm, ⟨0, _⟩ => ⟨S32x4096, .bf16⟩
  | .hbm, ⟨1, _⟩ => ⟨S32x1x4096, .f32⟩
  | .hbm, ⟨2, _⟩ => ⟨S32x4096, .f32⟩
  | .hbm, ⟨3, _⟩ => ⟨S32x4096, .f32⟩
  | .hbm, ⟨4, _⟩ => ⟨S32x4096, .f32⟩
  | .hbm, ⟨5, _⟩ => ⟨S8192x2048, .bf16⟩
  | .hbm, ⟨6, _⟩ => ⟨S8192x2048, .bf16⟩
  | .hbm, ⟨7, _⟩ => ⟨S4x2048x4096, .f32⟩
  | .hbm, ⟨8, _⟩ => ⟨S4x4096, .f32⟩
  | .hbm, ⟨9, _⟩ => ⟨S4x4096, .f32⟩
  | .hbm, ⟨10, _⟩ => ⟨S4x4096, .f32⟩
  | .hbm, ⟨11, _⟩ => ⟨S1x4096x4096, .f32⟩
  | .hbm, ⟨12, _⟩ => ⟨S1x4096, .f32⟩
  | .hbm, ⟨13, _⟩ => ⟨S1x4096x16384, .f32⟩
  | .hbm, ⟨14, _⟩ => ⟨S8192x4096, .bf16⟩
  | .hbm, ⟨15, _⟩ => ⟨S4x2048x4096, .bf16⟩
  | .hbm, ⟨16, _⟩ => ⟨S4096x4096, .f32⟩
  | .hbm, ⟨17, _⟩ => ⟨S4096, .f32⟩
  | .hbm, ⟨18, _⟩ => ⟨S4096x16384, .f32⟩
  | .hbm, ⟨19, _⟩ => ⟨S4x1x4096, .f32⟩
  | .hbm, ⟨20, _⟩ => ⟨S4x2048x4096, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S_, .f32⟩
  | .hbm, ⟨27, _⟩ => ⟨S4x2048, .f32⟩
  | .hbm, ⟨28, _⟩ => ⟨S4x2048x1, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S_, .f32⟩
  | .hbm, ⟨33, _⟩ => ⟨S4x2048x1, .f32⟩
  | .hbm, ⟨34, _⟩ => ⟨S4x2048x1, .f32⟩
  | .hbm, ⟨35, _⟩ => ⟨S4x2048x1, .f32⟩
  | .hbm, ⟨36, _⟩ => ⟨S4x2048x4096, .f32⟩
  | .hbm, ⟨37, _⟩ => ⟨S4x2048x4096, .f32⟩
  | .hbm, ⟨38, _⟩ => ⟨S1x1x4096, .f32⟩
  | .hbm, ⟨39, _⟩ => ⟨S4x2048x4096, .f32⟩
  | .hbm, ⟨40, _⟩ => ⟨S4x2048x4096, .f32⟩
  | .hbm, ⟨41, _⟩ => ⟨S4x1x4096, .f32⟩
  | .hbm, ⟨42, _⟩ => ⟨S_, .f32⟩
  | .hbm, ⟨43, _⟩ => ⟨S4x1x4096, .f32⟩
  | .hbm, ⟨44, _⟩ => ⟨S4x1x4096, .f32⟩
  | .hbm, ⟨45, _⟩ => ⟨S4x2048x4096, .f32⟩
  | .hbm, ⟨46, _⟩ => ⟨S4x2048x4096, .f32⟩
  | .hbm, ⟨47, _⟩ => ⟨S4x1x4096, .f32⟩
  | .hbm, ⟨48, _⟩ => ⟨S4x2048x4096, .f32⟩
  | .hbm, ⟨49, _⟩ => ⟨S4x2048x4096, .f32⟩
  | .hbm, ⟨50, _⟩ => ⟨S4x2048x16384, .f32⟩
  | .hbm, ⟨51, _⟩ => ⟨S_, .f32⟩
  | .hbm, ⟨52, _⟩ => ⟨S4x2048x16384, .f32⟩
  | .hbm, ⟨53, _⟩ => ⟨S4x2048x16384, .f32⟩
  | .hbm, ⟨54, _⟩ => ⟨S4x2048x16384, .f32⟩
  | .hbm, ⟨55, _⟩ => ⟨S4x2048x16384, .bf16⟩
  | .hbm, ⟨56, _⟩ => ⟨S32x1x4096, .bf16⟩
  | .hbm, ⟨57, _⟩ => ⟨S4096x4096, .f32⟩
  | .hbm, ⟨58, _⟩ => ⟨S4096, .f32⟩
  | .hbm, ⟨59, _⟩ => ⟨S4096x16384, .f32⟩
  | .hbm, ⟨60, _⟩ => ⟨S32x1x4096, .f32⟩
  | .hbm, ⟨61, _⟩ => ⟨S32x1x4096, .f32⟩
  | .hbm, ⟨62, _⟩ => ⟨S32x1x4096, .f32⟩
  | .hbm, ⟨63, _⟩ => ⟨S32x1x4096, .f32⟩
  | .hbm, ⟨64, _⟩ => ⟨S32x1x4096, .f32⟩
  | .hbm, ⟨65, _⟩ => ⟨S32x1x4096, .f32⟩
  | .hbm, ⟨66, _⟩ => ⟨S_, .f32⟩
  | .hbm, ⟨67, _⟩ => ⟨S32x1, .f32⟩
  | .hbm, ⟨68, _⟩ => ⟨S32x1x1, .f32⟩
  | .hbm, ⟨69, _⟩ => ⟨S_, .f32⟩
  | .hbm, ⟨70, _⟩ => ⟨S32x1x1, .f32⟩
  | .hbm, ⟨71, _⟩ => ⟨S32x1x1, .f32⟩
  | .hbm, ⟨72, _⟩ => ⟨S_, .f32⟩
  | .hbm, ⟨73, _⟩ => ⟨S32x1x1, .f32⟩
  | .hbm, ⟨74, _⟩ => ⟨S32x1x1, .f32⟩
  | .hbm, ⟨75, _⟩ => ⟨S32x1x1, .f32⟩
  | .hbm, ⟨76, _⟩ => ⟨S32x1x4096, .f32⟩
  | .hbm, ⟨77, _⟩ => ⟨S32x1x4096, .f32⟩
  | .hbm, ⟨78, _⟩ => ⟨S1x1x4096, .f32⟩
  | .hbm, ⟨79, _⟩ => ⟨S32x1x4096, .f32⟩
  | .hbm, ⟨80, _⟩ => ⟨S32x1x4096, .f32⟩
  | .hbm, ⟨81, _⟩ => ⟨S32x1x4096, .f32⟩
  | .hbm, ⟨82, _⟩ => ⟨S_, .f32⟩
  | .hbm, ⟨83, _⟩ => ⟨S32x1x4096, .f32⟩
  | .hbm, ⟨84, _⟩ => ⟨S32x1x4096, .f32⟩
  | .hbm, ⟨85, _⟩ => ⟨S32x1x4096, .f32⟩
  | .hbm, ⟨86, _⟩ => ⟨S32x1x4096, .f32⟩
  | .hbm, ⟨87, _⟩ => ⟨S32x1x4096, .f32⟩
  | .hbm, ⟨88, _⟩ => ⟨S32x1x16384, .f32⟩
  | .hbm, ⟨89, _⟩ => ⟨S_, .f32⟩
  | .hbm, ⟨90, _⟩ => ⟨S32x1x16384, .f32⟩
  | .hbm, ⟨91, _⟩ => ⟨S32x1x16384, .f32⟩
  | .hbm, ⟨92, _⟩ => ⟨S32x1x16384, .f32⟩
  | .hbm, ⟨93, _⟩ => ⟨S32x1x16384, .bf16⟩
  | .hbm, ⟨94, _⟩ => ⟨S8192x4096, .f32⟩
  | .hbm, ⟨95, _⟩ => ⟨S8192x16384, .bf16⟩
  | .hbm, ⟨96, _⟩ => ⟨S32x4096, .f32⟩
  | .hbm, ⟨97, _⟩ => ⟨S32x16384, .bf16⟩
  | .hbm, ⟨98, _⟩ => ⟨S4096x4096, .f32⟩
  | .hbm, ⟨99, _⟩ => ⟨S4096x4096, .bf16⟩
  | .hbm, ⟨100, _⟩ => ⟨S4096x16384, .f32⟩
  | .hbm, ⟨101, _⟩ => ⟨S4096x16384, .bf16⟩
  | _, _ => ⟨S32x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call0_cst : Ref sig .tc := ⟨.hbm, 51, rfl⟩
abbrev main_call0_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_3 : Ref sig .tc := ⟨.hbm, 66, rfl⟩
abbrev main_v46 : Ref sig .tc := ⟨.hbm, 67, rfl⟩
abbrev main_v47 : Ref sig .tc := ⟨.hbm, 68, rfl⟩
abbrev main_cst_4 : Ref sig .tc := ⟨.hbm, 69, rfl⟩
abbrev main_v48 : Ref sig .tc := ⟨.hbm, 70, rfl⟩
abbrev main_v49 : Ref sig .tc := ⟨.hbm, 71, rfl⟩
abbrev main_cst_5 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_6 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call1_cst : Ref sig .tc := ⟨.hbm, 89, rfl⟩
abbrev main_call1_v0 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== Kernel3.lean ====
abbrev S32x16384 : Shape := ⟨2, ![32, 16384]⟩
abbrev S32x4096 : Shape := ⟨2, ![32, 4096]⟩
abbrev S1x16384x4096 : Shape := ⟨3, ![1, 16384, 4096]⟩
abbrev S16384x4096 : Shape := ⟨2, ![16384, 4096]⟩
abbrev S32x2048 : Shape := ⟨2, ![32, 2048]⟩
abbrev S2048x1024 : Shape := ⟨2, ![2048, 1024]⟩
abbrev S32x1024 : Shape := ⟨2, ![32, 1024]⟩

abbrev nBuf : Space → Nat
  | .hbm => 7
  | .vmem => 13
  | .smem => 0
  | _ => 0

abbrev bufTy : (tb : Table) → Fin (tcTables nBuf tb) → BufTy
  | .hbm, ⟨0, _⟩ => ⟨S32x16384, .bf16⟩
  | .hbm, ⟨1, _⟩ => ⟨S32x4096, .f32⟩
  | .hbm, ⟨2, _⟩ => ⟨S32x4096, .f32⟩
  | .hbm, ⟨3, _⟩ => ⟨S1x16384x4096, .f32⟩
  | .hbm, ⟨4, _⟩ => ⟨S16384x4096, .f32⟩
  | .hbm, ⟨5, _⟩ => ⟨S16384x4096, .bf16⟩
  | .hbm, ⟨6, _⟩ => ⟨S32x4096, .f32⟩
  | .local _ .vmem, ⟨0, _⟩ => ⟨S32x2048, .bf16⟩
  | .local _ .vmem, ⟨1, _⟩ => ⟨S32x2048, .bf16⟩
  | .local _ .vmem, ⟨2, _⟩ => ⟨S2048x1024, .f32⟩
  | .local _ .vmem, ⟨3, _⟩ => ⟨S2048x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S2048x1024, .bf16⟩
  | .local _ .vmem, ⟨9, _⟩ => ⟨S2048x1024, .bf16⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | _, _ => ⟨S32x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S32x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference3Ideal.lean ====
abbrev S32x16384 : Shape := ⟨2, ![32, 16384]⟩
abbrev S32x4096 : Shape := ⟨2, ![32, 4096]⟩
abbrev S1x16384x4096 : Shape := ⟨3, ![1, 16384, 4096]⟩
abbrev S16384x4096 : Shape := ⟨2, ![16384, 4096]⟩

abbrev nBuf : Space → Nat
  | .hbm => 11
  | .vmem => 0
  | .smem => 0
  | _ => 0

abbrev bufTy : (tb : Table) → Fin (tcTables nBuf tb) → BufTy
  | .hbm, ⟨0, _⟩ => ⟨S32x16384, .bf16⟩
  | .hbm, ⟨1, _⟩ => ⟨S32x4096, .f32⟩
  | .hbm, ⟨2, _⟩ => ⟨S32x4096, .f32⟩
  | .hbm, ⟨3, _⟩ => ⟨S1x16384x4096, .f32⟩
  | .hbm, ⟨4, _⟩ => ⟨S32x16384, .f32⟩
  | .hbm, ⟨5, _⟩ => ⟨S16384x4096, .f32⟩
  | .hbm, ⟨6, _⟩ => ⟨S32x4096, .f32⟩
  | .hbm, ⟨7, _⟩ => ⟨S32x4096, .f32⟩
  | .hbm, ⟨8, _⟩ => ⟨S32x4096, .f32⟩
  | .hbm, ⟨9, _⟩ => ⟨S16384x4096, .f32⟩
  | .hbm, ⟨10, _⟩ => ⟨S16384x4096, .bf16⟩
  | _, _ => ⟨S32x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel4.lean ====
abbrev S8192x16384 : Shape := ⟨2, ![8192, 16384]⟩
abbrev S8192x4096 : Shape := ⟨2, ![8192, 4096]⟩
abbrev S4x4096 : Shape := ⟨2, ![4, 4096]⟩
abbrev S16384x4096 : Shape := ⟨2, ![16384, 4096]⟩
abbrev S4x1x4096 : Shape := ⟨3, ![4, 1, 4096]⟩
abbrev S1024x4096 : Shape := ⟨2, ![1024, 4096]⟩
abbrev S4096x1024 : Shape := ⟨2, ![4096, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x16384, .bf16⟩
  | .hbm, ⟨1, _⟩ => ⟨S8192x4096, .f32⟩
  | .hbm, ⟨2, _⟩ => ⟨S4x4096, .f32⟩
  | .hbm, ⟨3, _⟩ => ⟨S16384x4096, .bf16⟩
  | .hbm, ⟨4, _⟩ => ⟨S4x1x4096, .f32⟩
  | .hbm, ⟨5, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c3_i32 : BitVec 32 := 3#32
  let v4 : BitVec 1 := Scalar.cmpi .slt arg2 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference4Ideal.lean ====
abbrev S8192x16384 : Shape := ⟨2, ![8192, 16384]⟩
abbrev S8192x4096 : Shape := ⟨2, ![8192, 4096]⟩
abbrev S4x4096 : Shape := ⟨2, ![4, 4096]⟩
abbrev S16384x4096 : Shape := ⟨2, ![16384, 4096]⟩
abbrev S4x2048x4096 : Shape := ⟨3, ![4, 2048, 4096]⟩
abbrev S4x1x4096 : Shape := ⟨3, ![4, 1, 4096]⟩
abbrev S4x2048x16384 : Shape := ⟨3, ![4, 2048, 16384]⟩

abbrev nBuf : Space → Nat
  | .hbm => 14
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S8192x4096, .f32⟩
  | .hbm, ⟨2, _⟩ => ⟨S4x4096, .f32⟩
  | .hbm, ⟨3, _⟩ => ⟨S16384x4096, .bf16⟩
  | .hbm, ⟨4, _⟩ => ⟨S4x2048x4096, .f32⟩
  | .hbm, ⟨5, _⟩ => ⟨S4x1x4096, .f32⟩
  | .hbm, ⟨6, _⟩ => ⟨S4x2048x16384, .bf16⟩
  | .hbm, ⟨7, _⟩ => ⟨S4x2048x16384, .f32⟩
  | .hbm, ⟨8, _⟩ => ⟨S16384x4096, .f32⟩
  | .hbm, ⟨9, _⟩ => ⟨S4x2048x4096, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | .hbm, ⟨13, _⟩ => ⟨S8192x4096, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel5.lean ====
abbrev S8192x4096 : Shape := ⟨2, ![8192, 4096]⟩
abbrev S6152x4096 : Shape := ⟨2, ![6152, 4096]⟩
abbrev S8192x6144 : Shape := ⟨2, ![8192, 6144]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S6152x4096, .bf16⟩
  | .hbm, ⟨2, _⟩ => ⟨S8192x6144, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x4096 : Shape := ⟨2, ![8192, 4096]⟩
abbrev S6152x4096 : Shape := ⟨2, ![6152, 4096]⟩
abbrev S6144x4096 : Shape := ⟨2, ![6144, 4096]⟩
abbrev S4096x6144 : Shape := ⟨2, ![4096, 6144]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S6152x4096, .bf16⟩
  | .hbm, ⟨2, _⟩ => ⟨S8192x4096, .f32⟩
  | .hbm, ⟨3, _⟩ => ⟨S6144x4096, .bf16⟩
  | .hbm, ⟨4, _⟩ => ⟨S6144x4096, .f32⟩
  | .hbm, ⟨5, _⟩ => ⟨S4096x6144, .f32⟩
  | .hbm, ⟨6, _⟩ => ⟨S8192x6144, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S32x6152 : Shape := ⟨2, ![32, 6152]⟩
abbrev S1x32x4x256x512 : Shape := ⟨5, ![1, 32, 4, 256, 512]⟩
abbrev S1x32x4x256 : Shape := ⟨4, ![1, 32, 4, 256]⟩
abbrev S1x32x4 : Shape := ⟨3, ![1, 32, 4]⟩
abbrev S1x4 : Shape := ⟨2, ![1, 4]⟩
abbrev S1x4x512 : Shape := ⟨3, ![1, 4, 512]⟩
abbrev S32x8 : Shape := ⟨2, ![32, 8]⟩
abbrev S_ : Shape := ⟨0, ![]⟩
abbrev S32x128 : Shape := ⟨2, ![32, 128]⟩
abbrev S32x6144 : Shape := ⟨2, ![32, 6144]⟩
abbrev S4 : Shape := ⟨1, ![4]⟩
abbrev S4x512 : Shape := ⟨2, ![4, 512]⟩
abbrev S32x4 : Shape := ⟨2, ![32, 4]⟩
abbrev S8 : Shape := ⟨1, ![8]⟩
abbrev S128 : Shape := ⟨1, ![128]⟩
abbrev S1x128 : Shape := ⟨2, ![1, 128]⟩
abbrev S32x4x256x512 : Shape := ⟨4, ![32, 4, 256, 512]⟩
abbrev S32x4x256 : Shape := ⟨3, ![32, 4, 256]⟩
abbrev S32x1x6144 : Shape := ⟨3, ![32, 1, 6144]⟩
abbrev S32x1x128 : Shape := ⟨3, ![32, 1, 128]⟩
abbrev S1x2048 : Shape := ⟨2, ![1, 2048]⟩
abbrev S32x1x4 : Shape := ⟨3, ![32, 1, 4]⟩
abbrev S32x1x2048 : Shape := ⟨3, ![32, 1, 2048]⟩
abbrev S1x1x6144 : Shape := ⟨3, ![1, 1, 6144]⟩
abbrev S1x1x128 : Shape := ⟨3, ![1, 1, 128]⟩
abbrev S1x4x256x512 : Shape := ⟨4, ![1, 4, 256, 512]⟩
abbrev S1x4x256 : Shape := ⟨3, ![1, 4, 256]⟩
abbrev S1x1x4 : Shape := ⟨3, ![1, 1, 4]⟩
abbrev S1x1x2048 : Shape := ⟨3, ![1, 1, 2048]⟩
abbrev S256x256 : Shape := ⟨2, ![256, 256]⟩
abbrev S1x1 : Shape := ⟨2, ![1, 1]⟩
abbrev S1x1x256 : Shape := ⟨3, ![1, 1, 256]⟩
abbrev S1x256 : Shape := ⟨2, ![1, 256]⟩
abbrev S1x1x512 : Shape := ⟨3, ![1, 1, 512]⟩
abbrev S1x512 : Shape := ⟨2, ![1, 512]⟩
abbrev S1x1x256x512 : Shape := ⟨4, ![1, 1, 256, 512]⟩
abbrev S256x512 : Shape := ⟨2, ![256, 512]⟩
abbrev S1 : Shape := ⟨1, ![1]⟩
abbrev S256 : Shape := ⟨1, ![256]⟩
abbrev S256x1 : Shape := ⟨2, ![256, 1]⟩
abbrev S512 : Shape := ⟨1, ![512]⟩

abbrev nBuf : Space → Nat
  | .hbm => 33
  | .vmem => 20
  | .smem => 0
  | _ => 0

abbrev bufTy : (tb : Table) → Fin (tcTables nBuf tb) → BufTy
  | .hbm, ⟨0, _⟩ => ⟨S32x6152, .f32⟩
  | .hbm, ⟨1, _⟩ => ⟨S1x32x4x256x512, .f32⟩
  | .hbm, ⟨2, _⟩ => ⟨S1x32x4x256, .f32⟩
  | .hbm, ⟨3, _⟩ => ⟨S1x32x4, .f32⟩
  | .hbm, ⟨4, _⟩ => ⟨S1x4, .f32⟩
  | .hbm, ⟨5, _⟩ => ⟨S1x4, .f32⟩
  | .hbm, ⟨6, _⟩ => ⟨S1x4x512, .f32⟩
  | .hbm, ⟨7, _⟩ => ⟨S32x8, .f32⟩
  | .hbm, ⟨8, _⟩ => ⟨S_, .i32⟩
  | .hbm, ⟨9, _⟩ => ⟨S_, .f32⟩
  | .hbm, ⟨10, _⟩ => ⟨S32x128, .f32⟩
  | .hbm, ⟨11, _⟩ => ⟨S32x6144, .f32⟩
  | .hbm, ⟨12, _⟩ => ⟨S4, .f32⟩
  | .hbm, ⟨13, _⟩ => ⟨S4, .f32⟩
  | .hbm, ⟨14, _⟩ => ⟨S4x512, .f32⟩
  | .hbm, ⟨15, _⟩ => ⟨S32x4, .f32⟩
  | .hbm, ⟨16, _⟩ => ⟨S8, .f32⟩
  | .hbm, ⟨17, _⟩ => ⟨S_, .i32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S32x4x256x512, .f32⟩
  | .hbm, ⟨22, _⟩ => ⟨S32x4x256, .f32⟩
  | .hbm, ⟨23, _⟩ => ⟨S32x1x6144, .f32⟩
  | .hbm, ⟨24, _⟩ => ⟨S32x1x128, .f32⟩
  | .hbm, ⟨25, _⟩ => ⟨S1x2048, .f32⟩
  | .hbm, ⟨26, _⟩ => ⟨S32x1x4, .f32⟩
  | .hbm, ⟨27, _⟩ => ⟨S32x1x2048, .bf16⟩
  | .hbm, ⟨28, _⟩ => ⟨S32x4x256x512, .f32⟩
  | .hbm, ⟨29, _⟩ => ⟨S32x4x256, .f32⟩
  | .hbm, ⟨30, _⟩ => ⟨S32x1x128, .f32⟩
  | .hbm, ⟨31, _⟩ => ⟨S32x1x4, .f32⟩
  | .hbm, ⟨32, _⟩ => ⟨S32x4, .f32⟩
  | .local _ .vmem, ⟨0, _⟩ => ⟨S1x1x6144, .f32⟩
  | .local _ .vmem, ⟨1, _⟩ => ⟨S1x1x6144, .f32⟩
  | .local _ .vmem, ⟨2, _⟩ => ⟨S1x1x128, .f32⟩
  | .local _ .vmem, ⟨3, _⟩ => ⟨S1x1x128, .f32⟩
  | .local _ .vmem, ⟨4, _⟩ => ⟨S1x128, .f32⟩
  | .local _ .vmem, ⟨5, _⟩ => ⟨S1x2048, .f32⟩
  | .local _ .vmem, ⟨6, _⟩ => ⟨S1x4x256x512, .f32⟩
  | .local _ .vmem, ⟨7, _⟩ => ⟨S1x4x256x512, .f32⟩
  | .local _ .vmem, ⟨8, _⟩ => ⟨S1x4x256, .f32⟩
  | .local _ .vmem, ⟨9, _⟩ => ⟨S1x4x256, .f32⟩
  | .local _ .vmem, ⟨10, _⟩ => ⟨S1x1x4, .f32⟩
  | .local _ .vmem, ⟨11, _⟩ => ⟨S1x1x4, .f32⟩
  | .local _ .vmem, ⟨12, _⟩ => ⟨S1x1x2048, .bf16⟩
  | .local _ .vmem, ⟨13, _⟩ => ⟨S1x1x2048, .bf16⟩
  | .local _ .vmem, ⟨14, _⟩ => ⟨S1x4x256x512, .f32⟩
  | .local _ .vmem, ⟨15, _⟩ => ⟨S1x4x256x512, .f32⟩
  | .local _ .vmem, ⟨16, _⟩ => ⟨S1x4x256, .f32⟩
  | .local _ .vmem, ⟨17, _⟩ => ⟨S1x4x256, .f32⟩
  | .local _ .vmem, ⟨18, _⟩ => ⟨S1x1x128, .f32⟩
  | .local _ .vmem, ⟨19, _⟩ => ⟨S1x1x128, .f32⟩
  | _, _ => ⟨S32x6152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev main_v16_3 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  let c0_i32_3 : BitVec 32 := 0#32
  ![v0.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S32x6152 : Shape := ⟨2, ![32, 6152]⟩
abbrev S1x32x4x256x512 : Shape := ⟨5, ![1, 32, 4, 256, 512]⟩
abbrev S1x32x4x256 : Shape := ⟨4, ![1, 32, 4, 256]⟩
abbrev S1x32x4 : Shape := ⟨3, ![1, 32, 4]⟩
abbrev S1x4 : Shape := ⟨2, ![1, 4]⟩
abbrev S1x4x512 : Shape := ⟨3, ![1, 4, 512]⟩
abbrev S32x1024 : Shape := ⟨2, ![32, 1024]⟩
abbrev S32x4x256 : Shape := ⟨3, ![32, 4, 256]⟩
abbrev S_ : Shape := ⟨0, ![]⟩
abbrev S32x2048 : Shape := ⟨2, ![32, 2048]⟩
abbrev S32x4x512 : Shape := ⟨3, ![32, 4, 512]⟩
abbrev S32x4 : Shape := ⟨2, ![32, 4]⟩
abbrev S4 : Shape := ⟨1, ![4]⟩
abbrev S32x4x256x512 : Shape := ⟨4, ![32, 4, 256, 512]⟩
abbrev S32x4x1 : Shape := ⟨3, ![32, 4, 1]⟩
abbrev S32x4x1x1 : Shape := ⟨4, ![32, 4, 1, 1]⟩
abbrev S32x4x256x1 : Shape := ⟨4, ![32, 4, 256, 1]⟩
abbrev S32x4x1x512 : Shape := ⟨4, ![32, 4, 1, 512]⟩
abbrev S4x512 : Shape := ⟨2, ![4, 512]⟩
abbrev S32x1x2048 : Shape := ⟨3, ![32, 1, 2048]⟩

abbrev nBuf : Space → Nat
  | .hbm => 122
  | .vmem => 0
  | .smem => 0
  | _ => 0

abbrev bufTy : (tb : Table) → Fin (tcTables nBuf tb) → BufTy
  | .hbm, ⟨0, _⟩ => ⟨S32x6152, .f32⟩
  | .hbm, ⟨1, _⟩ => ⟨S1x32x4x256x512, .f32⟩
  | .hbm, ⟨2, _⟩ => ⟨S1x32x4x256, .f32⟩
  | .hbm, ⟨3, _⟩ => ⟨S1x32x4, .f32⟩
  | .hbm, ⟨4, _⟩ => ⟨S1x4, .f32⟩
  | .hbm, ⟨5, _⟩ => ⟨S1x4, .f32⟩
  | .hbm, ⟨6, _⟩ => ⟨S1x4x512, .f32⟩
  | .hbm, ⟨7, _⟩ => ⟨S32x1024, .f32⟩
  | .hbm, ⟨8, _⟩ => ⟨S32x4x256, .f32⟩
  | .hbm, ⟨9, _⟩ => ⟨S_, .f32⟩
  | .hbm, ⟨10, _⟩ => ⟨S32x4x256, .f32⟩
  | .hbm, ⟨11, _⟩ => ⟨S32x4x256, .f32⟩
  | .hbm, ⟨12, _⟩ => ⟨S32x2048, .f32⟩
  | .hbm, ⟨13, _⟩ => ⟨S32x4x512, .f32⟩
  | .hbm, ⟨14, _⟩ => ⟨S32x4, .f32⟩
  | .hbm, ⟨15, _⟩ => ⟨S4, .f32⟩
  | .hbm, ⟨16, _⟩ => ⟨S1x4, .f32⟩
  | .hbm, ⟨17, _⟩ => ⟨S32x4, .f32⟩
  | .hbm, ⟨18, _⟩ => ⟨S32x4, .f32⟩
  | .hbm, ⟨19, _⟩ => ⟨S32x4, .f32⟩
  | .hbm, ⟨20, _⟩ => ⟨S4, .f32⟩
  | .hbm, ⟨21, _⟩ => ⟨S1x4, .f32⟩
  | .hbm, ⟨22, _⟩ => ⟨S32x4, .f32⟩
  | .hbm, ⟨23, _⟩ => ⟨S32x4, .f32⟩
  | .hbm, ⟨24, _⟩ => ⟨S32x4, .f32⟩
  | .hbm, ⟨25, _⟩ => ⟨S_, .f32⟩
  | .hbm, ⟨26, _⟩ => ⟨S32x4, .f32⟩
  | .hbm, ⟨27, _⟩ => ⟨S32x4, .f32⟩
  | .hbm, ⟨28, _⟩ => ⟨S32x4, .f32⟩
  | .hbm, ⟨29, _⟩ => ⟨S32x4, .f32⟩
  | .hbm, ⟨30, _⟩ => ⟨S32x4, .i1⟩
  | .hbm, ⟨31, _⟩ => ⟨S32x4, .f32⟩
  | .hbm, ⟨32, _⟩ => ⟨S32x4, .f32⟩
  | .hbm, ⟨33, _⟩ => ⟨S32x4, .f32⟩
  | .hbm, ⟨34, _⟩ => ⟨S32x4, .f32⟩
  | .hbm, ⟨35, _⟩ => ⟨S32x4, .f32⟩
  | .hbm, ⟨36, _⟩ => ⟨S32x4, .f32⟩
  | .hbm, ⟨37, _⟩ => ⟨S32x4, .f32⟩
  | .hbm, ⟨38, _⟩ => ⟨S32x4, .f32⟩
  | .hbm, ⟨39, _⟩ => ⟨S32x4, .f32⟩
  | .hbm, ⟨40, _⟩ => ⟨S32x4x256x512, .f32⟩
  | .hbm, ⟨41, _⟩ => ⟨S32x4x256, .f32⟩
  | .hbm, ⟨42, _⟩ => ⟨S32x4, .f32⟩
  | .hbm, ⟨43, _⟩ => ⟨S32x4, .f32⟩
  | .hbm, ⟨44, _⟩ => ⟨S32x4, .f32⟩
  | .hbm, ⟨45, _⟩ => ⟨S32x4, .f32⟩
  | .hbm, ⟨46, _⟩ => ⟨S32x4, .f32⟩
  | .hbm, ⟨47, _⟩ => ⟨S32x4, .f32⟩
  | .hbm, ⟨48, _⟩ => ⟨S32x4, .f32⟩
  | .hbm, ⟨49, _⟩ => ⟨S32x4, .f32⟩
  | .hbm, ⟨50, _⟩ => ⟨S32x4x1, .f32⟩
  | .hbm, ⟨51, _⟩ => ⟨S32x4x256, .f32⟩
  | .hbm, ⟨52, _⟩ => ⟨S32x4x256, .f32⟩
  | .hbm, ⟨53, _⟩ => ⟨S32x4x1x1, .f32⟩
  | .hbm, ⟨54, _⟩ => ⟨S32x4x256x512, .f32⟩
  | .hbm, ⟨55, _⟩ => ⟨S32x4x256x512, .f32⟩
  | .hbm, ⟨56, _⟩ => ⟨S32x4x256x1, .f32⟩
  | .hbm, ⟨57, _⟩ => ⟨S32x4x1x512, .f32⟩
  | .hbm, ⟨58, _⟩ => ⟨S32x4x256x512, .f32⟩
  | .hbm, ⟨59, _⟩ => ⟨S32x4x256x512, .f32⟩
  | .hbm, ⟨60, _⟩ => ⟨S32x4x256x512, .f32⟩
  | .hbm, ⟨61, _⟩ => ⟨S32x4x256x512, .f32⟩
  | .hbm, ⟨62, _⟩ => ⟨S32x4x1, .f32⟩
  | .hbm, ⟨63, _⟩ => ⟨S32x4x256, .f32⟩
  | .hbm, ⟨64, _⟩ => ⟨S32x4x256, .f32⟩
  | .hbm, ⟨65, _⟩ => ⟨S32x4x256, .f32⟩
  | .hbm, ⟨66, _⟩ => ⟨S32x1024, .f32⟩
  | .hbm, ⟨67, _⟩ => ⟨S32x4x256, .f32⟩
  | .hbm, ⟨68, _⟩ => ⟨S32x4x256, .f32⟩
  | .hbm, ⟨69, _⟩ => ⟨S_, .f32⟩
  | .hbm, ⟨70, _⟩ => ⟨S32x4, .f32⟩
  | .hbm, ⟨71, _⟩ => ⟨S32x4, .f32⟩
  | .hbm, ⟨72, _⟩ => ⟨S32x4x1, .f32⟩
  | .hbm, ⟨73, _⟩ => ⟨S32x4x512, .f32⟩
  | .hbm, ⟨74, _⟩ => ⟨S32x4x512, .f32⟩
  | .hbm, ⟨75, _⟩ => ⟨S32x4x512, .f32⟩
  | .hbm, ⟨76, _⟩ => ⟨S32x4x1, .f32⟩
  | .hbm, ⟨77, _⟩ => ⟨S32x4x512, .f32⟩
  | .hbm, ⟨78, _⟩ => ⟨S32x4x512, .f32⟩
  | .hbm, ⟨79, _⟩ => ⟨S32x4x512, .f32⟩
  | .hbm, ⟨80, _⟩ => ⟨S32x4x256, .f32⟩
  | .hbm, ⟨81, _⟩ => ⟨S_, .f32⟩
  | .hbm, ⟨82, _⟩ => ⟨S32x4, .f32⟩
  | .hbm, ⟨83, _⟩ => ⟨S32x4, .f32⟩
  | .hbm, ⟨84, _⟩ => ⟨S32x4, .f32⟩
  | .hbm, ⟨85, _⟩ => ⟨S32x4, .f32⟩
  | .hbm, ⟨86, _⟩ => ⟨S32x4, .f32⟩
  | .hbm, ⟨87, _⟩ => ⟨S32x4, .f32⟩
  | .hbm, ⟨88, _⟩ => ⟨S32x4, .f32⟩
  | .hbm, ⟨89, _⟩ => ⟨S32x4x1, .f32⟩
  | .hbm, ⟨90, _⟩ => ⟨S32x4x512, .f32⟩
  | .hbm, ⟨91, _⟩ => ⟨S32x4x512, .f32⟩
  | .hbm, ⟨92, _⟩ => ⟨S4x512, .f32⟩
  | .hbm, ⟨93, _⟩ => ⟨S32x4x512, .f32⟩
  | .hbm, ⟨94, _⟩ => ⟨S_, .f32⟩
  | .hbm, ⟨95, _⟩ => ⟨S32x4, .f32⟩
  | .hbm, ⟨96, _⟩ => ⟨S32x4x1, .f32⟩
  | .hbm, ⟨97, _⟩ => ⟨S_, .f32⟩
  | .hbm, ⟨98, _⟩ => ⟨S32x4x1, .f32⟩
  | .hbm, ⟨99, _⟩ => ⟨S32x4x1, .f32⟩
  | .hbm, ⟨100, _⟩ => ⟨S_, .f32⟩
  | .hbm, ⟨101, _⟩ => ⟨S32x4x1, .f32⟩
  | .hbm, ⟨102, _⟩ => ⟨S32x4x1, .f32⟩
  | .hbm, ⟨103, _⟩ => ⟨S32x4x1, .f32⟩
  | .hbm, ⟨104, _⟩ => ⟨S32x4x512, .f32⟩
  | .hbm, ⟨105, _⟩ => ⟨S32x4x512, .f32⟩
  | .hbm, ⟨106, _⟩ => ⟨S1x4x512, .f32⟩
  | .hbm, ⟨107, _⟩ => ⟨S32x4x512, .f32⟩
  | .hbm, ⟨108, _⟩ => ⟨S32x4x512, .f32⟩
  | .hbm, ⟨109, _⟩ => ⟨S32x1x2048, .f32⟩
  | .hbm, ⟨110, _⟩ => ⟨S32x2048, .f32⟩
  | .hbm, ⟨111, _⟩ => ⟨S32x1x2048, .f32⟩
  | .hbm, ⟨112, _⟩ => ⟨S32x1x2048, .f32⟩
  | .hbm, ⟨113, _⟩ => ⟨S32x1x2048, .f32⟩
  | .hbm, ⟨114, _⟩ => ⟨S_, .f32⟩
  | .hbm, ⟨115, _⟩ => ⟨S32x1x2048, .f32⟩
  | .hbm, ⟨116, _⟩ => ⟨S32x1x2048, .f32⟩
  | .hbm, ⟨117, _⟩ => ⟨S_, .f32⟩
  | .hbm, ⟨118, _⟩ => ⟨S32x1x2048, .f32⟩
  | .hbm, ⟨119, _⟩ => ⟨S32x1x2048, .f32⟩
  | .hbm, ⟨120, _⟩ => ⟨S32x1x2048, .f32⟩
  | .hbm, ⟨121, _⟩ => ⟨S32x1x2048, .bf16⟩
  | _, _ => ⟨S32x6152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_1 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_2 : Ref sig .tc := ⟨.hbm, 94, rfl⟩
abbrev main_v69 : Ref sig .tc := ⟨.hbm, 95, rfl⟩
abbrev main_v70 : Ref sig .tc := ⟨.hbm, 96, rfl⟩
abbrev main_cst_3 : Ref sig .tc := ⟨.hbm, 97, rfl⟩
abbrev main_v71 : Ref sig .tc := ⟨.hbm, 98, rfl⟩
abbrev main_v72 : Ref sig .tc := ⟨.hbm, 99, rfl⟩
abbrev main_cst_4 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_5 : Ref sig .tc := ⟨.hbm, 114, rfl⟩
abbrev main_v86 : Ref sig .tc := ⟨.hbm, 115, rfl⟩
abbrev main_v87 : Ref sig .tc := ⟨.hbm, 116, rfl⟩
abbrev main_cst_6 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩

abbrev nD : Nat := 1
abbrev τ : Topo := Topo.v7x

variable {F : FTy → Type} [FloatOps F]
-- ==== Kernel7.lean ====
abbrev S8192x4096 : Shape := ⟨2, ![8192, 4096]⟩
abbrev S6144x4096 : Shape := ⟨2, ![6144, 4096]⟩
abbrev S1x128 : Shape := ⟨2, ![1, 128]⟩
abbrev S128 : Shape := ⟨1, ![128]⟩
abbrev S8192x2048 : Shape := ⟨2, ![8192, 2048]⟩
abbrev S1024x4096 : Shape := ⟨2, ![1024, 4096]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S6144x4096, .bf16⟩
  | .hbm, ⟨2, _⟩ => ⟨S1x128, .f32⟩
  | .hbm, ⟨3, _⟩ => ⟨S128, .f32⟩
  | .hbm, ⟨4, _⟩ => ⟨S1x128, .f32⟩
  | .hbm, ⟨5, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x128, .f32⟩
  | .local _ .vmem, ⟨5, _⟩ => ⟨S1024x1024, .bf16⟩
  | .local _ .vmem, ⟨6, _⟩ => ⟨S1024x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel7Ideal.lean ====
variable {F : FTy → Type} [FloatOps F] [Named F]
def κ : String → Option EReal := fun
  | "q_scale" => some (((Real.sqrt 128)⁻¹ * (Real.log 2)⁻¹ : ℝ) : EReal)
  | _ => none
-- ==== Reference7Ideal.lean ====
abbrev S8192x4096 : Shape := ⟨2, ![8192, 4096]⟩
abbrev S6144x4096 : Shape := ⟨2, ![6144, 4096]⟩
abbrev S1x128 : Shape := ⟨2, ![1, 128]⟩
abbrev S2048x4096 : Shape := ⟨2, ![2048, 4096]⟩
abbrev S4096x2048 : Shape := ⟨2, ![4096, 2048]⟩
abbrev S8192x2048 : Shape := ⟨2, ![8192, 2048]⟩
abbrev S8192x16x128 : Shape := ⟨3, ![8192, 16, 128]⟩
abbrev S128 : Shape := ⟨1, ![128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S6144x4096, .bf16⟩
  | .hbm, ⟨2, _⟩ => ⟨S1x128, .f32⟩
  | .hbm, ⟨3, _⟩ => ⟨S8192x4096, .f32⟩
  | .hbm, ⟨4, _⟩ => ⟨S2048x4096, .bf16⟩
  | .hbm, ⟨5, _⟩ => ⟨S2048x4096, .f32⟩
  | .hbm, ⟨6, _⟩ => ⟨S4096x2048, .f32⟩
  | .hbm, ⟨7, _⟩ => ⟨S8192x2048, .f32⟩
  | .hbm, ⟨8, _⟩ => ⟨S8192x16x128, .f32⟩
  | .hbm, ⟨9, _⟩ => ⟨S128, .f32⟩
  | .hbm, ⟨10, _⟩ => ⟨S8192x16x128, .f32⟩
  | .hbm, ⟨11, _⟩ => ⟨S_, .f32⟩
  | .hbm, ⟨12, _⟩ => ⟨S8192x16, .f32⟩
  | .hbm, ⟨13, _⟩ => ⟨S8192x16x1, .f32⟩
  | .hbm, ⟨14, _⟩ => ⟨S_, .f32⟩
  | .hbm, ⟨15, _⟩ => ⟨S8192x16x1, .f32⟩
  | .hbm, ⟨16, _⟩ => ⟨S8192x16x1, .f32⟩
  | .hbm, ⟨17, _⟩ => ⟨S_, .f32⟩
  | .hbm, ⟨18, _⟩ => ⟨S8192x16x1, .f32⟩
  | .hbm, ⟨19, _⟩ => ⟨S8192x16x1, .f32⟩
  | .hbm, ⟨20, _⟩ => ⟨S8192x16x1, .f32⟩
  | .hbm, ⟨21, _⟩ => ⟨S8192x16x128, .f32⟩
  | .hbm, ⟨22, _⟩ => ⟨S8192x16x128, .f32⟩
  | .hbm, ⟨23, _⟩ => ⟨S1x1x128, .f32⟩
  | .hbm, ⟨24, _⟩ => ⟨S8192x16x128, .f32⟩
  | .hbm, ⟨25, _⟩ => ⟨S8192x16x128, .f32⟩
  | .hbm, ⟨26, _⟩ => ⟨S_, .f32⟩
  | .hbm, ⟨27, _⟩ => ⟨S_, .f32⟩
  | .hbm, ⟨28, _⟩ => ⟨S8192x16x128, .f32⟩
  | .hbm, ⟨29, _⟩ => ⟨S8192x16x128, .f32⟩
  | .hbm, ⟨30, _⟩ => ⟨S_, .f32⟩
  | .hbm, ⟨31, _⟩ => ⟨S_, .f32⟩
  | .hbm, ⟨32, _⟩ => ⟨S8192x16x128, .f32⟩
  | .hbm, ⟨33, _⟩ => ⟨S8192x16x128, .f32⟩
  | .hbm, ⟨34, _⟩ => ⟨S8192x2048, .f32⟩
  | .hbm, ⟨35, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel8.lean ====
abbrev S8192x4096 : Shape := ⟨2, ![8192, 4096]⟩
abbrev S1x4096x12296 : Shape := ⟨3, ![1, 4096, 12296]⟩
abbrev S4096x12296 : Shape := ⟨2, ![4096, 12296]⟩
abbrev S4096x8 : Shape := ⟨2, ![4096, 8]⟩
abbrev S8x4096 : Shape := ⟨2, ![8, 4096]⟩
abbrev S_ : Shape := ⟨0, ![]⟩
abbrev S4096x128 : Shape := ⟨2, ![4096, 128]⟩
abbrev S8192x128 : Shape := ⟨2, ![8192, 128]⟩
abbrev S1024x4096 : Shape := ⟨2, ![1024, 4096]⟩
abbrev S1024x128 : Shape := ⟨2, ![1024, 128]⟩

abbrev nBuf : Space → Nat
  | .hbm => 10
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S1x4096x12296, .f32⟩
  | .hbm, ⟨2, _⟩ => ⟨S4096x12296, .f32⟩
  | .hbm, ⟨3, _⟩ => ⟨S4096x8, .f32⟩
  | .hbm, ⟨4, _⟩ => ⟨S8x4096, .f32⟩
  | .hbm, ⟨5, _⟩ => ⟨S4096x8, .f32⟩
  | .hbm, ⟨6, _⟩ => ⟨S_, .i32⟩
  | .hbm, ⟨7, _⟩ => ⟨S_, .f32⟩
  | .hbm, ⟨8, _⟩ => ⟨S4096x128, .f32⟩
  | .hbm, ⟨9, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .f32⟩
  | .local _ .vmem, ⟨3, _⟩ => ⟨S1024x128, .f32⟩
  | .local _ .vmem, ⟨4, _⟩ => ⟨S1024x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8192x4096 : Shape := ⟨2, ![8192, 4096]⟩
abbrev S1x4096x12296 : Shape := ⟨3, ![1, 4096, 12296]⟩
abbrev S4096x12296 : Shape := ⟨2, ![4096, 12296]⟩
abbrev S4096x8 : Shape := ⟨2, ![4096, 8]⟩
abbrev S8192x8 : Shape := ⟨2, ![8192, 8]⟩
abbrev S_ : Shape := ⟨0, ![]⟩
abbrev S8192x128 : Shape := ⟨2, ![8192, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x12296, .f32⟩
  | .hbm, ⟨2, _⟩ => ⟨S8192x4096, .f32⟩
  | .hbm, ⟨3, _⟩ => ⟨S4096x12296, .f32⟩
  | .hbm, ⟨4, _⟩ => ⟨S4096x8, .f32⟩
  | .hbm, ⟨5, _⟩ => ⟨S8192x8, .f32⟩
  | .hbm, ⟨6, _⟩ => ⟨S_, .i32⟩
  | .hbm, ⟨7, _⟩ => ⟨S_, .f32⟩
  | .hbm, ⟨8, _⟩ => ⟨S8192x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.InProj.lean ====
/-
  The two products of the decoding group's input projection, whose weight window is addressed by ELEMENTS: each call's
  array results as functions of the two arrays it reads, at any entry contents.
-/
module

public import proofs.«01_k».proof.Proof.Gen.KernelIdeal.Frame
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- Rows `r0, r0 + 1, …` of the transposed weight. -/
abbrev rowsFrom (n r0 : ℕ) (h : r0 + n ≤ 12296) (w : FVec Ideal S12296x4096 .f32) : FVec Ideal ⟨2, ![n, 4096]⟩ .bf16 :=
  fun j => w (ix2 ⟨r0 + (j 0).val, lt_of_lt_of_le (Nat.add_lt_add_left (j 0).isLt r0) h⟩ (j 1))

/-- The product of `x` with those rows. -/
abbrev mulRows (n r0 : ℕ) (h : r0 + n ≤ 12296) (x : FVec Ideal S32x4096 .bf16) (w : FVec Ideal S12296x4096 .f32) :
    FVec Ideal ⟨2, ![32, n]⟩ .f32 :=
  fun j => ∑ k : Fin 4096, x (ix2 (j 0) k) * w (ix2 ⟨r0 + (j 1).val, lt_of_lt_of_le (Nat.add_lt_add_left (j 1).isLt r0) h⟩ k)

/-! ## The mLSTM group's columns -/

/-- Where the windows of the call stand at each grid point; the weight window's place is an element, not a block. -/
theorem idx2 : ∀ t : Fin cfg2.N, win2_0.index t = ![0, 0] ∧ win2_1.index t = ![512 * (grid2.coords t 0).val, 0]
    ∧ win2_2.index t = ![(grid2.coords t 0).val, 0] ∧ win2_3.index t = ![0, (grid2.coords t 0).val] :=
  (by decide +kernel : ∀ t : Fin grid2.N, _)

/-- An element of the weight window's block in the weight. -/
theorem emb2 (t : Fin cfg2.N) (z : (win2_1.xblock (grid2.coords t)).Idx) :
    ((win2_1.rect t).emb z 0).val = 512 * (grid2.coords t 0).val + (z 0).val ∧ ((win2_1.rect t).emb z 1).val = (z 1).val := by
  have h := (idx2 t).2.1
  constructor
  · rw [win2_1.rect_emb_val_off t z 0, h]; rfl
  · rw [win2_1.rect_emb_val_off t z 1, h]; exact Nat.zero_add _

/-- The narrowed weight it writes. -/
theorem wt2 (c : Dev nD) (w : FVec Ideal S12296x4096 .f32) (hw : V c main_v16 = w) :
    (dat2 V c).arrAt 2 cfg2.N = rowsFrom 6152 0 (by decide) w := by
  refine (dat2 V c).arrAt_eq_of_covers 2 _ (by decide +kernel) fun t _ y => ?_
  blk_simp
  rw [after2_2]; frame_out
  subst hw
  pointwise [k2_pay1, rowsFrom]
  blk_point [iblk2, idx2 t]
  · refine (emb2 t _).1.trans ?_
    show 512 * (grid2.coords t 0).val + (y 0).val = _
    omega
  · exact (emb2 t _).2

/-- The product it writes. -/
theorem mul2 (c : Dev nD) (x : FVec Ideal S32x4096 .bf16) (w : FVec Ideal S12296x4096 .f32)
    (hx : V c main_v14 = x) (hw : V c main_v16 = w) :
    (dat2 V c).arrAt 3 cfg2.N = mulRows 6152 0 (by decide) x w := by
  refine (dat2 V c).arrAt_eq_of_covers 3 _ (by decide +kernel) fun t _ y => ?_
  blk_simp
  rw [after2_3]; frame_out
  subst hw hx
  pointwise [k2_pay2, k2_pay1, mulRows]
  blk_point [iblk2, idx2 t]
  · refine (emb2 t _).1.trans ?_
    show 512 * (grid2.coords t 0).val + (y 1).val = _
    omega
  · exact (emb2 t _).2

/-! ## The attention group's columns -/

/-- Where the windows of the call stand at each grid point; the weight window's place is an element, not a block. -/
theorem idx3 : ∀ t : Fin cfg3.N, win3_0.index t = ![0, 0] ∧ win3_1.index t = ![6152 + 512 * (grid3.coords t 0).val, 0]
    ∧ win3_2.index t = ![(grid3.coords t 0).val, 0] ∧ win3_3.index t = ![0, (grid3.coords t 0).val] :=
  (by decide +kernel : ∀ t : Fin grid3.N, _)

/-- An element of the weight window's block in the weight. -/
theorem emb3 (t : Fin cfg3.N) (z : (win3_1.xblock (grid3.coords t)).Idx) :
    ((win3_1.rect t).emb z 0).val = 6152 + 512 * (grid3.coords t 0).val + (z 0).val ∧ ((win3_1.rect t).emb z 1).val = (z 1).val := by
  have h := (idx3 t).2.1
  constructor
  · rw [win3_1.rect_emb_val_off t z 0, h]; rfl
  · rw [win3_1.rect_emb_val_off t z 1, h]; exact Nat.zero_add _

/-- The narrowed weight it writes. -/
theorem wt3 (c : Dev nD) (w : FVec Ideal S12296x4096 .f32) (hw : V c main_v16 = w) :
    (dat3 V c).arrAt 2 cfg3.N = rowsFrom 6144 6152 (by decide) w := by
  refine (dat3 V c).arrAt_eq_of_covers 2 _ (by decide +kernel) fun t _ y => ?_
  blk_simp
  rw [after3_2]; frame_out
  subst hw
  pointwise [k3_pay1, rowsFrom]
  blk_point [iblk3, idx3 t]
  · refine (emb3 t _).1.trans ?_
    show 6152 + 512 * (grid3.coords t 0).val + (y 0).val = _
    omega
  · exact (emb3 t _).2

/-- The product it writes. -/
theorem mul3 (c : Dev nD) (x : FVec Ideal S32x4096 .bf16) (w : FVec Ideal S12296x4096 .f32)
    (hx : V c main_v14 = x) (hw : V c main_v16 = w) :
    (dat3 V c).arrAt 3 cfg3.N = mulRows 6144 6152 (by decide) x w := by
  refine (dat3 V c).arrAt_eq_of_covers 3 _ (by decide +kernel) fun t _ y => ?_
  blk_simp
  rw [after3_3]; frame_out
  subst hw hx
  pointwise [k3_pay2, k3_pay1, mulRows]
  blk_point [iblk3, idx3 t]
  · refine (emb3 t _).1.trans ?_
    show 6152 + 512 * (grid3.coords t 0).val + (y 1).val = _
    omega
  · exact (emb3 t _).2

end Cert.KernelIdeal.Value

end
-- ==== Proof.Spec.lean ====
/-
  The mathematics of the layer's input stage, one request's row at a time, over the extended reals.
-/
module

public import Idealize.ShloMosaic.Lib.Pipeline.ValueKit

@[expose] public section

noncomputable section

namespace Cert.Spec

open Idealize.ShloMosaic

/-- The gated linear unit's gate on one number. -/
abbrev gate (x : EReal) : EReal := x * Ideal.div 1 (1 + Ideal.exp (0 - x))

/-- The reciprocal root of a mean of squares, from the sum `s` and the count's word `n`. -/
abbrev rootOf (n : BitVec 32) (s : EReal) : EReal :=
  Ideal.rsqrt (Ideal.div s (Ideal.ofBits FTy.f32 n) + Ideal.ofBits FTy.f32 897988541#32)

/-- A request's modulation, from its conditioning row. -/
def modAt (c : Fin 4096 → EReal) (w : FVec Ideal ⟨3, ![1, 4096, 24576]⟩ .f32) (b : FVec Ideal ⟨2, ![1, 24576]⟩ .f32)
    (q : Fin 24576) : EReal :=
  (∑ k : Fin 4096, gate (c k) * w (ix3 0 k q)) + b (ix2 0 q)

/-- A token's modulated norm: the shift is the modulation's first part, the scale its second. -/
def normAt (x : Fin 4096 → EReal) (g : FVec Ideal ⟨2, ![1, 4096]⟩ .f32) (mod : Fin 24576 → EReal) (k : Fin 4096) : EReal :=
  x k * rootOf 1166016512#32 (∑ i : Fin 4096, x i * x i) * g (ix2 0 k) * (1 + mod ⟨4096 + k.val, by omega⟩) + mod ⟨k.val, by omega⟩

/-- A token's input projection. -/
def projAt (h : Fin 4096 → EReal) (w : FVec Ideal ⟨3, ![1, 4096, 12296]⟩ .f32) (q : Fin 12296) : EReal :=
  ∑ k : Fin 4096, h k * w (ix3 0 k q)

/-- One head's key: the columns of head `a` divided by their root mean square and scaled. -/
def keyAt (p : Fin 12296 → EReal) (g : FVec Ideal ⟨2, ![1, 128]⟩ .f32) (a : Fin 16) (z : Fin 128) : EReal :=
  p ⟨8200 + 128 * a.val + z.val, by omega⟩ * rootOf 1124073472#32 (∑ i : Fin 128,
    p ⟨8200 + 128 * a.val + i.val, by omega⟩ * p ⟨8200 + 128 * a.val + i.val, by omega⟩) * g (ix2 0 z)

end Cert.Spec

end
-- ==== Proof.Norms.lean ====
/-
  The adaptive modulation, the modulated norms and the value projection: each call's array result as a function of the
  arrays it reads, at any entry contents.
-/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-! ## The modulation -/

/-- The modulation of every request. -/
abbrev modOf (x : FVec Ideal S40x4096 .f32) (w : FVec Ideal S4096x24576 .f32) (b : FVec Ideal S1x24576 .f32) :
    FVec Ideal S40x24576 .f32 :=
  fun j => (∑ k : Fin 4096, gate (x (ix2 (j 0) k)) * w (ix2 k (j 1))) + b (ix2 0 (j 1))

/-- Where the windows of the call stand at each grid point. -/
theorem idx0 : ∀ t : Fin cfg0.N, win0_0.index t = ![0, 0] ∧ win0_1.index t = ![0, (grid0.coords t 0).val]
    ∧ win0_2.index t = ![0, (grid0.coords t 0).val] ∧ win0_3.index t = ![0, (grid0.coords t 0).val] :=
  (by decide +kernel : ∀ t : Fin grid0.N, _)

/-- What it writes. -/
theorem arr0 (c : Dev nD) (x : FVec Ideal S40x4096 .f32) (w : FVec Ideal S4096x24576 .f32) (b : FVec Ideal S1x24576 .f32)
    (hx : V c main_v3 = x) (hw : V c main_v4 = w) (hb : V c main_v6 = b) :
    (dat0 V c).arrAt 3 cfg0.N = modOf x w b := by
  refine (dat0 V c).arrAt_eq_of_covers 3 _ (by decide +kernel) fun t _ y => ?_
  blk_simp
  rw [after0_3]; frame_out
  subst hx hw hb
  pointwise [k0_pay1, modOf, gate]
  blk_point [iblk0, idx0 t]

/-! ## The norms -/

/-- The modulated norm of the decoding group. -/
abbrev normS (x : FVec Ideal S32x4096 .f32) (w : FVec Ideal S1x4096 .f32) (sc sh : FVec Ideal S32x4096 .f32) :
    FVec Ideal S32x4096 .bf16 :=
  fun j => x j * rootOf 1166016512#32 (∑ k : Fin 4096, x (ix2 (j 0) k) * x (ix2 (j 0) k)) * w (ix2 0 (j 1)) * (1 + sc j) + sh j

/-- Where the windows of the call stand. -/
theorem idx1 : ∀ t : Fin cfg1.N, win1_0.index t = ![0, 0] ∧ win1_1.index t = ![0, 0]
    ∧ win1_2.index t = ![0, 0] ∧ win1_3.index t = ![0, 0] ∧ win1_4.index t = ![0, 0] :=
  (by decide +kernel : ∀ t : Fin grid1.N, _)

/-- What it writes. -/
theorem arr1 (c : Dev nD) (x : FVec Ideal S32x4096 .f32) (w : FVec Ideal S1x4096 .f32) (sc sh : FVec Ideal S32x4096 .f32)
    (hx : V c main_v1 = x) (hw : V c main_v13 = w) (hc : V c main_v11 = sc) (hh : V c main_v10 = sh) :
    (dat1 V c).arrAt 4 cfg1.N = normS x w sc sh := by
  refine (dat1 V c).arrAt_eq_of_covers 4 _ (by decide +kernel) fun t _ y => ?_
  blk_simp
  rw [after1_4]; frame_out
  subst hx hw hc hh
  pointwise [k1_pay1, normS, rootOf]
  blk_point [iblk1, idx1 t]

/-- The modulated norm of the prompt group, 2048 rows to a request. -/
abbrev normP (x : FVec Ideal S8192x4096 .f32) (w : FVec Ideal S1x4096 .f32) (sc sh : FVec Ideal S4x1x4096 .f32) :
    FVec Ideal S8192x4096 .bf16 :=
  fun j => x j * rootOf 1166016512#32 (∑ k : Fin 4096, x (ix2 (j 0) k) * x (ix2 (j 0) k)) * w (ix2 0 (j 1))
    * (1 + sc (ix3 ⟨(j 0).val / 2048, by have := (j 0).isLt; change (j 0).val < 8192 at this; omega⟩ 0 (j 1)))
    + sh (ix3 ⟨(j 0).val / 2048, by have := (j 0).isLt; change (j 0).val < 8192 at this; omega⟩ 0 (j 1))

/-- Where the windows of the call stand at each grid point. -/
theorem idx5 : ∀ t : Fin cfg5.N, win5_0.index t = ![(grid5.coords t 0).val, 0] ∧ win5_1.index t = ![0, 0]
    ∧ win5_2.index t = ![(grid5.coords t 0).val / 4, 0, 0] ∧ win5_3.index t = ![(grid5.coords t 0).val / 4, 0, 0]
    ∧ win5_4.index t = ![(grid5.coords t 0).val, 0] :=
  (by decide +kernel : ∀ t : Fin grid5.N, _)

/-- What it writes. -/
theorem arr5 (c : Dev nD) (x : FVec Ideal S8192x4096 .f32) (w : FVec Ideal S1x4096 .f32) (sc sh : FVec Ideal S4x1x4096 .f32)
    (hx : V c main_v0 = x) (hw : V c main_v27 = w) (hc : V c main_v25 = sc) (hh : V c main_v26 = sh) :
    (dat5 V c).arrAt 4 cfg5.N = normP x w sc sh := by
  refine (dat5 V c).arrAt_eq_of_covers 4 _ (by decide +kernel) fun t _ y => ?_
  blk_simp
  rw [after5_4]; frame_out
  subst hx hw hc hh
  pointwise [k5_pay1, normP, rootOf]
  blk_point [iblk5, idx5 t]

/-! ## The values -/

/-- The product of `h` with rows `r0, r0 + 1, …` of the narrowed weight. -/
abbrev mulT (r0 : ℕ) (hr : r0 + 2048 ≤ 6144) (h : FVec Ideal S8192x4096 .bf16) (w : FVec Ideal S6144x4096 .bf16) :
    FVec Ideal S8192x2048 .f32 :=
  fun j => ∑ k : Fin 4096, h (ix2 (j 0) k) * w (ix2 ⟨r0 + (j 1).val, lt_of_lt_of_le (Nat.add_lt_add_left (j 1).isLt r0) hr⟩ k)

/-- Where the windows of the call stand at each grid point. -/
theorem idx7 : ∀ t : Fin cfg7.N, win7_0.index t = ![(grid7.coords t 0).val, 0] ∧ win7_1.index t = ![4 + (grid7.coords t 1).val, 0]
    ∧ win7_2.index t = ![(grid7.coords t 0).val, (grid7.coords t 1).val] :=
  (by decide +kernel : ∀ t : Fin grid7.N, _)

/-- What it writes. -/
theorem arr7 (c : Dev nD) (h : FVec Ideal S8192x4096 .bf16) (w : FVec Ideal S6144x4096 .bf16)
    (hh : V c main_v28 = h) (hw : V c main_v18_0 = w) :
    (dat7 V c).arrAt 2 cfg7.N = mulT 4096 (by decide) h w := by
  refine (dat7 V c).arrAt_eq_of_covers 2 _ (by decide +kernel) fun t _ y => ?_
  blk_simp
  rw [after7_2]; frame_out
  subst hh hw
  pointwise [k7_pay1, mulT]
  blk_point [iblk7, idx7 t]

end Cert.KernelIdeal.Value

end
-- ==== Proof.Values.lean ====
/-
  The buffers of the input stage, boundary by boundary: what the host operations between the calls read, and what each call
  leaves, as functions of the arguments.
-/
module

public import proofs.«01_k».proof.Proof.InProj
public import proofs.«01_k».proof.Proof.Norms
public import Idealize.ShloMosaic.Lib.StableHlo.ReadAt

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Spec

variable (m : (ℓ : Loc nD τ sig) → Buf (Elt Ideal) ℓ) (ρ : Dev nD → PrngReg) (c : Dev nD)

/-! ## The arguments -/

abbrev xP : FVec Ideal S4x2048x4096 .f32 := m ((c : Thread nD τ).loc main_arg0)
abbrev xS : FVec Ideal S32x1x4096 .f32 := m ((c : Thread nD τ).loc main_arg1)
abbrev cP : FVec Ideal S4x4096 .f32 := m ((c : Thread nD τ).loc main_arg2)
abbrev cS : FVec Ideal S32x4096 .f32 := m ((c : Thread nD τ).loc main_arg3)
abbrev wAda : FVec Ideal S1x4096x24576 .f32 := m ((c : Thread nD τ).loc main_arg4)
abbrev bAda : FVec Ideal S1x24576 .f32 := m ((c : Thread nD τ).loc main_arg5)
abbrev gNorm : FVec Ideal S1x4096 .f32 := m ((c : Thread nD τ).loc main_arg6)
abbrev wIn : FVec Ideal S1x4096x12296 .f32 := m ((c : Thread nD τ).loc main_arg7)
abbrev gKey : FVec Ideal S1x128 .f32 := m ((c : Thread nD τ).loc main_arg8)

/-- A prompt request's modulation. -/
abbrev modP (r : Fin 4) : Fin 24576 → EReal := modAt (fun k => cP m c (ix2 r k)) (wAda m c) (bAda m c)
/-- A decoding request's modulation. -/
abbrev modS (r : Fin 32) : Fin 24576 → EReal := modAt (fun k => cS m c (ix2 r k)) (wAda m c) (bAda m c)
/-- A prompt token's modulated norm. -/
abbrev hidP (b : Fin 4) (t : Fin 2048) : Fin 4096 → EReal := normAt (fun k => xP m c (ix3 b t k)) (gNorm m c) (modP m c b)
/-- A decoding request's modulated norm. -/
abbrev hidS (r : Fin 32) : Fin 4096 → EReal := normAt (fun k => xS m c (ix3 r 0 k)) (gNorm m c) (modS m c r)
/-- A prompt token's projection. -/
abbrev prP (b : Fin 4) (t : Fin 2048) : Fin 12296 → EReal := projAt (hidP m c b t) (wIn m c)
/-- A decoding request's projection. -/
abbrev prS (r : Fin 32) : Fin 12296 → EReal := projAt (hidS m c r) (wIn m c)

/-! ## The modulation -/

theorem v2_at : (W1 m ρ c main_v2 : FVec Ideal S36x4096 .f32) = fun j => if h : (j 0).val < 4 then cP m c (ix2 ⟨(j 0).val, h⟩ (j 1))
    else cS m c (ix2 ⟨(j 0).val - 4, by have := (j 0).isLt; change (j 0).val < 36 at this; omega⟩ (j 1)) := by
  funext j
  after_reads_at

theorem v3_at (r : Fin 36) (k : Fin 4096) : (W3 m ρ c main_v3 : FVec Ideal S40x4096 .f32) (ix2 ⟨r.val, by omega⟩ k)
    = (W1 m ρ c main_v2 : FVec Ideal S36x4096 .f32) (ix2 r k) := by
  rw [W3_of m ρ c main_v3 (by decide)]
  generalize hW : W1 m ρ c = W
  rw [show W2 m ρ c = StableHlo.after hostOps0_1 (W1 m ρ c) from rfl, hW]
  after_reads_at

theorem v4_at : (W3 m ρ c main_v4 : FVec Ideal S4096x24576 .f32) = fun j => wAda m c (ix3 0 (j 0) (j 1)) := by
  funext j
  after_reads_at

theorem v6_at : (W3 m ρ c main_v6 : FVec Ideal S1x24576 .f32) = fun j => bAda m c (ix2 0 (j 1)) := by
  funext j
  after_reads_at

theorem v7_at : (W4 m ρ c main_v7 : FVec Ideal S40x24576 .f32)
    = modOf (W3 m ρ c main_v3) (fun j => wAda m c (ix3 0 (j 0) (j 1))) (fun j => bAda m c (ix2 0 (j 1))) :=
  (W4_arr m ρ c 3).trans (arr0 (V3 m ρ) c _ _ _ rfl (v4_at m ρ c) (v6_at m ρ c))

theorem v7_prompt (r : Fin 4) (q : Fin 24576) :
    (W4 m ρ c main_v7 : FVec Ideal S40x24576 .f32) (ix2 ⟨r.val, by omega⟩ q) = modP m c r q := by
  rw [v7_at]
  refine congrArg (· + _) (Finset.sum_congr rfl fun k _ => ?_)
  refine congrArg (fun z => gate z * _) ((v3_at m ρ c ⟨r.val, by omega⟩ k).trans ?_)
  rw [v2_at]
  exact dif_pos r.isLt

theorem v7_sample (r : Fin 32) (q : Fin 24576) :
    (W4 m ρ c main_v7 : FVec Ideal S40x24576 .f32) (ix2 ⟨4 + r.val, by omega⟩ q) = modS m c r q := by
  rw [v7_at]
  refine congrArg (· + _) (Finset.sum_congr rfl fun k _ => ?_)
  refine congrArg (fun z => gate z * _) ((v3_at m ρ c ⟨4 + r.val, by omega⟩ k).trans ?_)
  rw [v2_at]
  refine (dif_neg (by show ¬ 4 + r.val < 4; omega)).trans ?_
  exact congrArg (fun z => cS m c (ix2 z k)) (Fin.ext (Nat.add_sub_cancel_left 4 r.val))

/-! ## The decoding group: norm and projection -/

theorem v1_at : (W5 m ρ c main_v1 : FVec Ideal S32x4096 .f32) = fun j => xS m c (ix3 (j 0) 0 (j 1)) := by
  refine ((W5_of m ρ c main_v1 (by decide)).trans ((W4_of m ρ c main_v1 (by decide)).trans
    ((W3_of m ρ c main_v1 (by decide)).trans (W2_of m ρ c main_v1 (by decide))))).trans ?_
  funext j
  after_reads_at

theorem v10_at : (W5 m ρ c main_v10 : FVec Ideal S32x4096 .f32) = fun j => modS m c (j 0) ⟨(j 1).val, lt_trans (j 1).isLt (by decide)⟩ := by
  funext j
  after_reads_at
  exact v7_sample m ρ c (j 0) _

theorem v11_at : (W5 m ρ c main_v11 : FVec Ideal S32x4096 .f32)
    = fun j => modS m c (j 0) ⟨4096 + (j 1).val, by have := (j 1).isLt; change (j 1).val < 4096 at this; omega⟩ := by
  funext j
  after_reads_at
  exact v7_sample m ρ c (j 0) _

theorem v13_at : (W5 m ρ c main_v13 : FVec Ideal S1x4096 .f32) = fun j => gNorm m c (ix2 0 (j 1)) := by
  funext j
  after_reads_at
  exact congrFun (W4_args m ρ c main_arg6 (by decide)) _

theorem v14_at : (W6 m ρ c main_v14 : FVec Ideal S32x4096 .bf16) = fun j => hidS m c (j 0) (j 1) :=
  (W6_arr m ρ c 4).trans (arr1 (V5 m ρ) c _ (fun j => gNorm m c (ix2 0 (j 1))) _ _ (v1_at m ρ c) (v13_at m ρ c) (v11_at m ρ c) (v10_at m ρ c))

theorem v16_at : (W7 m ρ c main_v16 : FVec Ideal S12296x4096 .f32) = fun j => wIn m c (ix3 0 (j 1) (j 0)) := by
  funext j
  after_reads_at
  exact congrFun (W6_args m ρ c main_arg7 (by decide)) _

theorem v17_0_at : (W8 m ρ c main_v17_0 : FVec Ideal S6152x4096 .bf16)
    = fun j => wIn m c (ix3 0 (j 1) ⟨(j 0).val, lt_trans (j 0).isLt (by decide)⟩) := by
  refine ((W8_arr m ρ c 2).trans (wt2 (V7 m ρ) c _ (v16_at m ρ c))).trans ?_
  funext j
  exact congrArg (fun z => wIn m c (ix3 0 (j 1) z)) (Fin.ext (Nat.zero_add _))

theorem v17_1_at : (W8 m ρ c main_v17_1 : FVec Ideal S32x6152 .f32)
    = fun j => prS m c (j 0) ⟨(j 1).val, lt_trans (j 1).isLt (by decide)⟩ := by
  refine ((W8_arr m ρ c 3).trans (mul2 (V7 m ρ) c _ _ ((W7_of m ρ c main_v14 (by decide)).trans (v14_at m ρ c)) (v16_at m ρ c))).trans ?_
  funext j
  exact congrArg (fun z => prS m c (j 0) z) (Fin.ext (Nat.zero_add _))

theorem v18_0_at : (W9 m ρ c main_v18_0 : FVec Ideal S6144x4096 .bf16)
    = fun j => wIn m c (ix3 0 (j 1) ⟨6152 + (j 0).val, by have := (j 0).isLt; change (j 0).val < 6144 at this; omega⟩) :=
  (W9_arr m ρ c 2).trans (wt3 (V8 m ρ) c _ ((W8_of m ρ c main_v16 (by decide)).trans (v16_at m ρ c)))

theorem v18_1_at : (W9 m ρ c main_v18_1 : FVec Ideal S32x6144 .f32)
    = fun j => prS m c (j 0) ⟨6152 + (j 1).val, by have := (j 1).isLt; change (j 1).val < 6144 at this; omega⟩ :=
  (W9_arr m ρ c 3).trans (mul3 (V8 m ρ) c _ _ ((W8_of m ρ c main_v14 (by decide)).trans ((W7_of m ρ c main_v14 (by decide)).trans (v14_at m ρ c)))
    ((W8_of m ρ c main_v16 (by decide)).trans (v16_at m ρ c)))

/-! ## The prompt group: norm and values -/

theorem v0_at : (W12 m ρ c main_v0 : FVec Ideal S8192x4096 .f32) = fun j => xP m c (ix3
    ⟨(j 0).val / 2048, by have := (j 0).isLt; change (j 0).val < 8192 at this; omega⟩ ⟨(j 0).val % 2048, Nat.mod_lt _ (by decide)⟩ (j 1)) := by
  refine ((W12_of m ρ c main_v0 (by decide)).trans ((W11_of m ρ c main_v0 (by decide)).trans
    ((W10_of m ρ c main_v0 (by decide)).trans ((W9_of m ρ c main_v0 (by decide)).trans
    ((W8_of m ρ c main_v0 (by decide)).trans ((W7_of m ρ c main_v0 (by decide)).trans ((W6_of m ρ c main_v0 (by decide)).trans
    ((W5_of m ρ c main_v0 (by decide)).trans ((W4_of m ρ c main_v0 (by decide)).trans
    ((W3_of m ρ c main_v0 (by decide)).trans (W2_of m ρ c main_v0 (by decide)))))))))))).trans ?_
  funext j
  after_reads_at

theorem v9_at : (W11 m ρ c main_v9 : FVec Ideal S4x4096 .f32)
    = fun j => modP m c (j 0) ⟨4096 + (j 1).val, by have := (j 1).isLt; change (j 1).val < 4096 at this; omega⟩ := by
  refine ((W11_of m ρ c main_v9 (by decide)).trans
    ((W10_of m ρ c main_v9 (by decide)).trans ((W9_of m ρ c main_v9 (by decide)).trans
    ((W8_of m ρ c main_v9 (by decide)).trans ((W7_of m ρ c main_v9 (by decide)).trans (W6_of m ρ c main_v9 (by decide))))))).trans ?_
  funext j
  after_reads_at
  exact v7_prompt m ρ c (j 0) _

theorem v8_at : (W11 m ρ c main_v8 : FVec Ideal S4x4096 .f32)
    = fun j => modP m c (j 0) ⟨(j 1).val, lt_trans (j 1).isLt (by decide)⟩ := by
  refine ((W11_of m ρ c main_v8 (by decide)).trans
    ((W10_of m ρ c main_v8 (by decide)).trans ((W9_of m ρ c main_v8 (by decide)).trans
    ((W8_of m ρ c main_v8 (by decide)).trans ((W7_of m ρ c main_v8 (by decide)).trans (W6_of m ρ c main_v8 (by decide))))))).trans ?_
  funext j
  after_reads_at
  exact v7_prompt m ρ c (j 0) _

theorem v25_at : (W12 m ρ c main_v25 : FVec Ideal S4x1x4096 .f32)
    = fun j => modP m c (j 0) ⟨4096 + (j 2).val, by have := (j 2).isLt; change (j 2).val < 4096 at this; omega⟩ := by
  funext j
  after_reads_at
  exact congrFun (v9_at m ρ c) _

theorem v26_at : (W12 m ρ c main_v26 : FVec Ideal S4x1x4096 .f32)
    = fun j => modP m c (j 0) ⟨(j 2).val, lt_trans (j 2).isLt (by decide)⟩ := by
  funext j
  after_reads_at
  exact congrFun (v8_at m ρ c) _

theorem v27_at : (W12 m ρ c main_v27 : FVec Ideal S1x4096 .f32) = fun j => gNorm m c (ix2 0 (j 1)) := by
  funext j
  after_reads_at
  exact congrFun (W11_args m ρ c main_arg6 (by decide)) _

theorem v28_at : (W13 m ρ c main_v28 : FVec Ideal S8192x4096 .bf16) = fun j => hidP m c
    ⟨(j 0).val / 2048, by have := (j 0).isLt; change (j 0).val < 8192 at this; omega⟩ ⟨(j 0).val % 2048, Nat.mod_lt _ (by decide)⟩ (j 1) :=
  (W13_arr m ρ c 4).trans (arr5 (V12 m ρ) c _ (fun j => gNorm m c (ix2 0 (j 1))) _ _ (v0_at m ρ c) (v27_at m ρ c) (v25_at m ρ c) (v26_at m ρ c))

theorem v28_at' : (W14 m ρ c main_v28 : FVec Ideal S8192x4096 .bf16) = fun j => hidP m c
    ⟨(j 0).val / 2048, by have := (j 0).isLt; change (j 0).val < 8192 at this; omega⟩ ⟨(j 0).val % 2048, Nat.mod_lt _ (by decide)⟩ (j 1) :=
  (W14_of m ρ c main_v28 (by decide)).trans (v28_at m ρ c)

theorem v18_0_at' : (W14 m ρ c main_v18_0 : FVec Ideal S6144x4096 .bf16)
    = fun j => wIn m c (ix3 0 (j 1) ⟨6152 + (j 0).val, by have := (j 0).isLt; change (j 0).val < 6144 at this; omega⟩) :=
  ((W14_of m ρ c main_v18_0 (by decide)).trans ((W13_of m ρ c main_v18_0 (by decide)).trans ((W12_of m ρ c main_v18_0 (by decide)).trans
    ((W11_of m ρ c main_v18_0 (by decide)).trans (W10_of m ρ c main_v18_0 (by decide)))))).trans (v18_0_at m ρ c)

theorem v32_at : (W16 m ρ c main_v32 : FVec Ideal S8192x2048 .f32) = fun j => prP m c
    ⟨(j 0).val / 2048, by have := (j 0).isLt; change (j 0).val < 8192 at this; omega⟩ ⟨(j 0).val % 2048, Nat.mod_lt _ (by decide)⟩
    ⟨6152 + (4096 + (j 1).val), by have := (j 1).isLt; change (j 1).val < 2048 at this; omega⟩ :=
  (W16_arr m ρ c 2).trans (arr7 (V15 m ρ) c _ _ ((W15_of m ρ c main_v28 (by decide)).trans (v28_at' m ρ c))
    ((W15_of m ρ c main_v18_0 (by decide)).trans (v18_0_at' m ρ c)))

end Cert.KernelIdeal.Value

end
-- ==== Proof.Keys.lean ====
/-
  The prompt group's keys: the call's normalised keys as a function of the arrays it reads, at any entry contents.
-/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-- Column `z` of head `a` among the keys' columns. -/
abbrev keyCol (a : Fin 16) (z : Fin 128) : Fin 6144 := ⟨2048 + 128 * a.val + z.val, by omega⟩

/-- The keys, head by head, each head's row divided by its root mean square and scaled. -/
abbrev keyRows (h : FVec Ideal S8192x4096 .bf16) (w : FVec Ideal S6144x4096 .bf16) (g : FVec Ideal S1x128 .f32) :
    FVec Ideal S8192x16x128 .f32 :=
  fun j => (∑ k : Fin 4096, h (ix2 (j 0) k) * w (ix2 (keyCol (j 1) (j 2)) k))
    * rootOf 1124073472#32 (∑ z : Fin 128, (∑ k : Fin 4096, h (ix2 (j 0) k) * w (ix2 (keyCol (j 1) z) k))
        * (∑ k : Fin 4096, h (ix2 (j 0) k) * w (ix2 (keyCol (j 1) z) k))) * g (ix2 0 (j 2))

/-- Where the windows of the call stand at each grid point. -/
theorem idx6 : ∀ t : Fin cfg6.N, win6_0.index t = ![(grid6.coords t 0).val, 0] ∧ win6_1.index t = ![2 + (grid6.coords t 1).val, 0]
    ∧ win6_2.index t = ![0, 0] ∧ win6_4.index t = ![(grid6.coords t 0).val, (grid6.coords t 1).val, 0] :=
  (by decide +kernel : ∀ t : Fin grid6.N, _)

/-- An element of the result window's block in the result. -/
theorem emb6 (t : Fin cfg6.N) (y : (win6_4.xblock (grid6.coords t)).Idx) :
    (((View.whole main_v31_1).slice (win6_4.rect t)).emb y 1).val = 8 * (grid6.coords t 1).val + (y 1).val
      ∧ (((View.whole main_v31_1).slice (win6_4.rect t)).emb y 2).val = (y 2).val := by
  have h := (idx6 t).2.2.2
  constructor
  · refine (win6_4.rect_emb_val t y 1).trans ?_
    rw [h]; exact congrArg (· + _) (Nat.mul_comm _ _)
  · refine (win6_4.rect_emb_val t y 2).trans ?_
    rw [h]; exact Nat.zero_add _

/-- What it writes. -/
theorem arr6 (c : Dev nD) (h : FVec Ideal S8192x4096 .bf16) (w : FVec Ideal S6144x4096 .bf16) (g : FVec Ideal S1x128 .f32)
    (hh : V c main_v28 = h) (hw : V c main_v18_0 = w) (hg : V c main_v30 = g) :
    (dat6 V c).arrAt 4 cfg6.N = keyRows h w g := by
  refine (dat6 V c).arrAt_eq_of_covers 4 _ (by decide +kernel) fun t _ y => ?_
  blk_simp
  rw [after6_4]
  subst hh hw hg
  unfold_out out6_4
  have e := emb6 t y
  canon_tiles x h
  all_goals
    open_payloads
    pointwise [keyRows, rootOf]
    blk_point [iblk6, idx6 t]
  all_goals omega

end Cert.KernelIdeal.Value

end
-- ==== Proof.Keys4.lean ====
/-
  The decoding group's keys: the call's normalised keys as a function of the arrays it reads, at any entry contents.
-/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Spec

variable (V : (c : Dev nD) → (b : Ref sig .tc) → Buf (Elt Ideal) ((c : Thread nD τ).loc b))

/-! ## The decoding group's keys -/

theorem tile_lt (a : Fin 2048) (z : Fin 128) : a.val / 128 * 128 + z.val < 2048 := by omega

/-- Each tile of 128 columns divided by its root mean square and scaled. -/
abbrev keyTiles (x : FVec Ideal S32x2048 .f32) (g : FVec Ideal S1x128 .f32) : FVec Ideal S32x2048 .f32 :=
  fun j => x j * rootOf 1124073472#32 (∑ z : Fin 128, x (ix2 (j 0) ⟨(j 1).val / 128 * 128 + z.val, tile_lt (j 1) z⟩)
      * x (ix2 (j 0) ⟨(j 1).val / 128 * 128 + z.val, tile_lt (j 1) z⟩)) * g (ix2 0 ⟨(j 1).val % 128, Nat.mod_lt _ (by decide)⟩)

/-- Where the windows of the call stand. -/
theorem idx4 : ∀ t : Fin cfg4.N, win4_0.index t = ![0, 0] ∧ win4_1.index t = ![0, 0] ∧ win4_2.index t = ![0, 0] :=
  (by decide +kernel : ∀ t : Fin grid4.N, _)

set_option maxHeartbeats 2000000 in
/-- What it writes. -/
theorem arr4 (c : Dev nD) (x : FVec Ideal S32x2048 .f32) (g : FVec Ideal S1x128 .f32)
    (hx : V c main_v19 = x) (hg : V c main_v21 = g) :
    (dat4 V c).arrAt 2 cfg4.N = keyTiles x g := by
  refine (dat4 V c).arrAt_eq_of_covers 2 _ (by decide +kernel) fun t _ y => ?_
  blk_simp
  rw [after4_2]
  subst hx hg
  unfold_out out4_2
  canon_tiles x h
  all_goals
    open_payloads
    pointwise [keyTiles, rootOf]
    blk_point [iblk4, idx4 t]

end Cert.KernelIdeal.Value

end
-- ==== Proof.Results.lean ====
/-
  The results of the input stage as functions of the arguments.
-/
module

public import proofs.«01_k».proof.Proof.Values
public import proofs.«01_k».proof.Proof.Keys
public import proofs.«01_k».proof.Proof.Keys4
public import Idealize.ShloMosaic.Lib.StableHlo.ReadAt

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Spec

variable (m : (ℓ : Loc nD τ sig) → Buf (Elt Ideal) ℓ) (ρ : Dev nD → PrngReg) (c : Dev nD)

/-! ## The keys -/

theorem v19_at : (W10 m ρ c main_v19 : FVec Ideal S32x2048 .f32)
    = fun j => prS m c (j 0) ⟨6152 + (2048 + (j 1).val), by have := (j 1).isLt; change (j 1).val < 2048 at this; omega⟩ := by
  funext j
  after_reads_at
  exact congrFun (v18_1_at m ρ c) _

theorem v21_at : (W10 m ρ c main_v21 : FVec Ideal S1x128 .f32) = fun j => gKey m c (ix2 0 (j 1)) := by
  funext j
  after_reads_at
  exact congrFun (W9_args m ρ c main_arg8 (by decide)) _

theorem v22_at (r : Fin 32) (a : Fin 16) (z : Fin 128) :
    (W11 m ρ c main_v22 : FVec Ideal S32x2048 .f32) (ix2 r ⟨a.val * 128 + z.val, by omega⟩) = keyAt (prS m c r) (gKey m c) a z := by
  refine (congrFun ((W11_arr m ρ c 2).trans (arr4 (V10 m ρ) c _ (fun j => gKey m c (ix2 0 (j 1))) (v19_at m ρ c) (v21_at m ρ c))) _).trans ?_
  have e : ∀ i : Fin 128, 6152 + (2048 + ((a.val * 128 + z.val) / 128 * 128 + i.val)) = 8200 + 128 * a.val + i.val := fun i => by omega
  have e' : 6152 + (2048 + (a.val * 128 + z.val)) = 8200 + 128 * a.val + z.val := by omega
  have e2 : (a.val * 128 + z.val) % 128 = z.val := by omega
  unfold keyAt
  show prS m c r ⟨6152 + (2048 + (a.val * 128 + z.val)), _⟩ * rootOf 1124073472#32 (∑ i : Fin 128,
    prS m c r ⟨6152 + (2048 + ((a.val * 128 + z.val) / 128 * 128 + i.val)), _⟩
      * prS m c r ⟨6152 + (2048 + ((a.val * 128 + z.val) / 128 * 128 + i.val)), _⟩) * gKey m c (ix2 0 ⟨(a.val * 128 + z.val) % 128, _⟩) = _
  simp only [e, e', e2]

theorem v30_at : (W14 m ρ c main_v30 : FVec Ideal S1x128 .f32) = fun j => gKey m c (ix2 0 (j 1)) := by
  funext j
  after_reads_at
  exact congrFun (W13_args m ρ c main_arg8 (by decide)) _

/-- A row of keys whose products are a row of the projection is that row's keys. -/
theorem keyRows_proj (h : FVec Ideal S8192x4096 .bf16) (w : FVec Ideal S6144x4096 .bf16) (g : FVec Ideal S1x128 .f32)
    (p : Fin 12296 → EReal) (r : Fin 8192) (hp : ∀ q : Fin 6144, (∑ k : Fin 4096, h (ix2 r k) * w (ix2 q k)) = p ⟨6152 + q.val, by omega⟩)
    (a : Fin 16) (z : Fin 128) : keyRows h w g (ix3 r a z) = keyAt p g a z := by
  have e : ∀ i : Fin 128, (∑ k : Fin 4096, h (ix2 r k) * w (ix2 (keyCol a i) k)) = p ⟨8200 + 128 * a.val + i.val, by omega⟩ :=
    fun i => (hp (keyCol a i)).trans (congrArg p (Fin.ext (by show 6152 + (2048 + 128 * a.val + i.val) = 8200 + 128 * a.val + i.val; omega)))
  refine Eq.trans (b := (∑ k : Fin 4096, h (ix2 r k) * w (ix2 (keyCol a z) k)) * rootOf 1124073472#32
    (∑ i : Fin 128, (∑ k : Fin 4096, h (ix2 r k) * w (ix2 (keyCol a i) k)) * (∑ k : Fin 4096, h (ix2 r k) * w (ix2 (keyCol a i) k)))
      * g (ix2 0 z)) rfl ?_
  simp only [e]
  rfl

theorem keyAt_gain (p : Fin 12296 → EReal) (g g' : FVec Ideal S1x128 .f32) (hg : g = fun j => g' (ix2 0 (j 1))) (a : Fin 16) (z : Fin 128) :
    keyAt p g a z = keyAt p g' a z := by
  subst hg
  rfl

theorem v31_1_at (r : Fin 8192) (a : Fin 16) (z : Fin 128) : (W15 m ρ c main_v31_1 : FVec Ideal S8192x16x128 .f32) (ix3 r a z)
    = keyAt (prP m c ⟨r.val / 2048, by omega⟩ ⟨r.val % 2048, Nat.mod_lt _ (by decide)⟩) (gKey m c) a z :=
  (congrFun ((W15_arr m ρ c 4).trans (arr6 (V14 m ρ) c _ _ (fun j => gKey m c (ix2 0 (j 1))) (v28_at' m ρ c) (v18_0_at' m ρ c) (v30_at m ρ c))) _).trans
    ((keyRows_proj _ _ _ (prP m c ⟨r.val / 2048, by omega⟩ ⟨r.val % 2048, Nat.mod_lt _ (by decide)⟩) r (fun _ => rfl) a z).trans
      (keyAt_gain _ _ _ rfl a z))

/-! ## The results -/

/-- The prompt group's keys. -/
theorem out_kp : (W17 m ρ c main_v33 : FVec Ideal S1x4x2048x8x2x128 .f32) = fun j => keyAt (prP m c (j 1) (j 2)) (gKey m c)
    ⟨(j 3).val * 2 + (j 4).val, by have h3 := (j 3).isLt; have h4 := (j 4).isLt; change (j 3).val < 8 at h3; change (j 4).val < 2 at h4; omega⟩ (j 5) := by
  funext j
  after_reads_at
  rw [W16_of m ρ c main_v31_1 (by decide)]
  refine (v31_1_at m ρ c _ _ _).trans ?_
  have h2 := (j 2).isLt
  change (j 2).val < 2048 at h2
  have e1 : ((j 1).val * 2048 + (j 2).val) / 2048 = (j 1).val := by omega
  have e2 : ((j 1).val * 2048 + (j 2).val) % 2048 = (j 2).val := by omega
  simp only [e1, e2]
  rfl

/-- The prompt group's values. -/
theorem out_vp : (W17 m ρ c main_v34 : FVec Ideal S1x4x2048x8x256 .f32) = fun j => prP m c (j 1) (j 2)
    ⟨10248 + ((j 3).val * 256 + (j 4).val), by have h3 := (j 3).isLt; have h4 := (j 4).isLt; change (j 3).val < 8 at h3; change (j 4).val < 256 at h4; omega⟩ := by
  funext j
  after_reads_at
  refine (congrFun (v32_at m ρ c) _).trans ?_
  have h2 := (j 2).isLt
  change (j 2).val < 2048 at h2
  have e1 : ((j 1).val * 2048 + (j 2).val) / 2048 = (j 1).val := by omega
  have e2 : ((j 1).val * 2048 + (j 2).val) % 2048 = (j 2).val := by omega
  have e3 : 6152 + (4096 + ((j 3).val * 256 + (j 4).val)) = 10248 + ((j 3).val * 256 + (j 4).val) := by omega
  show prP m c ⟨((j 1).val * 2048 + (j 2).val) / 2048, _⟩ ⟨((j 1).val * 2048 + (j 2).val) % 2048, _⟩
    ⟨6152 + (4096 + ((j 3).val * 256 + (j 4).val)), _⟩ = _
  simp only [e1, e2, e3]
  rfl

/-- The decoding group's keys. -/
theorem out_ks : (W17 m ρ c main_v35 : FVec Ideal S1x32x1x8x2x128 .f32) = fun j => keyAt (prS m c (j 1)) (gKey m c)
    ⟨(j 3).val * 2 + (j 4).val, by have h3 := (j 3).isLt; have h4 := (j 4).isLt; change (j 3).val < 8 at h3; change (j 4).val < 2 at h4; omega⟩ (j 5) := by
  funext j
  after_reads_at
  rw [W16_of m ρ c main_v22 (by decide), W15_of m ρ c main_v22 (by decide), W14_of m ρ c main_v22 (by decide),
    W13_of m ρ c main_v22 (by decide), W12_of m ρ c main_v22 (by decide)]
  refine Eq.trans (congrArg (fun q => (W11 m ρ c main_v22 : FVec Ideal S32x2048 .f32) (ix2 (j 1) q)) (Fin.ext ?_)) (v22_at m ρ c (j 1) _ (j 5))
  show (j 3).val * 256 + (j 4).val * 128 + (j 5).val = ((j 3).val * 2 + (j 4).val) * 128 + (j 5).val
  omega

/-- The decoding group's values. -/
theorem out_vs : (W17 m ρ c main_v36 : FVec Ideal S1x32x1x8x256 .f32) = fun j => prS m c (j 1)
    ⟨10248 + ((j 3).val * 256 + (j 4).val), by have h3 := (j 3).isLt; have h4 := (j 4).isLt; change (j 3).val < 8 at h3; change (j 4).val < 256 at h4; omega⟩ := by
  funext j
  after_reads_at
  rw [W16_of m ρ c main_v23 (by decide), W15_of m ρ c main_v23 (by decide), W14_of m ρ c main_v23 (by decide),
    W13_of m ρ c main_v23 (by decide)]
  after_reads_at
  rw [W11_of m ρ c main_v18_1 (by decide), W10_of m ρ c main_v18_1 (by decide)]
  refine (congrFun (v18_1_at m ρ c) _).trans ?_
  have e3 : 6152 + (4096 + ((j 3).val * 256 + (j 4).val)) = 10248 + ((j 3).val * 256 + (j 4).val) := by omega
  show prS m c (j 1) ⟨6152 + (4096 + ((j 3).val * 256 + (j 4).val)), _⟩ = _
  simp only [e3]

theorem keep8 (r : Ref sig .tc) (h16 : ∀ w : Fin cfg7.W, Pipeline.arrRef spec7 w = r → (cfg7.win w).isOut = false)
    (h15 : ∀ w : Fin cfg6.W, Pipeline.arrRef spec6 w = r → (cfg6.win w).isOut = false)
    (h13 : ∀ w : Fin cfg5.W, Pipeline.arrRef spec5 w = r → (cfg5.win w).isOut = false)
    (h11 : ∀ w : Fin cfg4.W, Pipeline.arrRef spec4 w = r → (cfg4.win w).isOut = false)
    (h17 : r ∉ hostOps8_W) (h14 : r ∉ hostOps6_W) (h12 : r ∉ hostOps5_W) (h10 : r ∉ hostOps4_W) :
    W17 m ρ c (Proc.devRef .tc r) = W9 m ρ c (Proc.devRef .tc r) :=
  (W17_of m ρ c r h17).trans ((W16_of m ρ c r h16).trans ((W15_of m ρ c r h15).trans ((W14_of m ρ c r h14).trans
    ((W13_of m ρ c r h13).trans ((W12_of m ρ c r h12).trans ((W11_of m ρ c r h11).trans (W10_of m ρ c r h10)))))))

/-- The recurrent group's projection. -/
theorem out_pm : (W17 m ρ c main_v17_1 : FVec Ideal S32x6152 .f32) = fun j => prS m c (j 0) ⟨(j 1).val, lt_trans (j 1).isLt (by decide)⟩ :=
  (keep8 m ρ c main_v17_1 (by decide) (by decide) (by decide) (by decide) (by decide) (by decide) (by decide) (by decide)).trans
    ((W9_of m ρ c main_v17_1 (by decide)).trans (v17_1_at m ρ c))

/-- The recurrent group's narrowed weight. -/
theorem out_wm : (W17 m ρ c main_v17_0 : FVec Ideal S6152x4096 .bf16)
    = fun j => wIn m c (ix3 0 (j 1) ⟨(j 0).val, lt_trans (j 0).isLt (by decide)⟩) :=
  (keep8 m ρ c main_v17_0 (by decide) (by decide) (by decide) (by decide) (by decide) (by decide) (by decide) (by decide)).trans
    ((W9_of m ρ c main_v17_0 (by decide)).trans (v17_0_at m ρ c))

/-- The attention group's narrowed weight. -/
theorem out_wa : (W17 m ρ c main_v18_0 : FVec Ideal S6144x4096 .bf16)
    = fun j => wIn m c (ix3 0 (j 1) ⟨6152 + (j 0).val, by have := (j 0).isLt; change (j 0).val < 6144 at this; omega⟩) :=
  (keep8 m ρ c main_v18_0 (by decide) (by decide) (by decide) (by decide) (by decide) (by decide) (by decide) (by decide)).trans
    (v18_0_at m ρ c)

end Cert.KernelIdeal.Value

end
-- ==== Proof.RefValues.lean ====
/-
  The reference's results, read at an index as the mathematics of Spec.
-/
module

public import proofs.«01_k».proof.Proof.Spec
public import proofs.«01_k».proof.Proof.Gen.ReferenceIdeal.Read
public import Idealize.ShloMosaic.Lib.Pipeline.ValueKit

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.ReferenceIdeal.Read Cert.Spec

variable (x0 : FVec Ideal S4x2048x4096 .f32) (x1 : FVec Ideal S32x1x4096 .f32) (x2 : FVec Ideal S4x4096 .f32) (x3 : FVec Ideal S32x4096 .f32)
  (x4 : FVec Ideal S1x4096x24576 .f32) (x5 : FVec Ideal S1x24576 .f32) (x6 : FVec Ideal S1x4096 .f32) (x7 : FVec Ideal S1x4096x12296 .f32)
  (x8 : FVec Ideal S1x128 .f32)

/-! ## The prompt group -/

theorem mod_p (j : S4x24576.Idx) : val_main_v8 (F := Ideal) x2 x4 x5 j = modAt (fun k => x2 (ix2 (j 0) k)) x4 x5 (j 1) := by
  unfold modAt
  pointwise [val_main_call0_v0, val_main_call0_v1, val_main_call0_v2, val_main_call0_v3, val_main_call0_v4, val_main_call0_v5,
    val_main_call0_cst, val_main_call0_cst_0, val_main_v0, val_main_v1, val_main_v4, val_main_v5, val_main_v6, val_main_v7,
    val_main_v8, gate]
  simp only [zero_sub]

theorem hid_p (j : S4x2048x4096.Idx) : val_main_v30 (F := Ideal) x0 x2 x4 x5 x6 j
    = normAt (fun k => x0 (ix3 (j 0) (j 1) k)) x6 (modAt (fun k => x2 (ix2 (j 0) k)) x4 x5) (j 2) := by
  unfold normAt
  pointwise [val_main_v2, val_main_v9, val_main_v10, val_main_v11, val_main_v12, val_main_v13, val_main_v14, val_main_v15, val_main_v16,
    val_main_v17, val_main_v18, val_main_v19, val_main_v20, val_main_v21, val_main_v22, val_main_v23, val_main_v24, val_main_v25,
    val_main_v26, val_main_v27, val_main_v28, val_main_v29, val_main_v30, val_main_cst, val_main_cst_0, val_main_cst_1,
    val_main_cst_2, rootOf, mod_p]

theorem proj_p (j : S4x2048x12296.Idx) : val_main_v31 (F := Ideal) x0 x2 x4 x5 x6 x7 j
    = projAt (normAt (fun k => x0 (ix3 (j 0) (j 1) k)) x6 (modAt (fun k => x2 (ix2 (j 0) k)) x4 x5)) x7 (j 2) := by
  unfold projAt
  pointwise [val_main_v31, val_main_v3, hid_p]

/-- The keys. -/
theorem key_p (j : S1x4x2048x8x2x128.Idx) : val_main_v50 (F := Ideal) x0 x2 x4 x5 x6 x7 x8 j
    = keyAt (projAt (normAt (fun k => x0 (ix3 (j 1) (j 2) k)) x6 (modAt (fun k => x2 (ix2 (j 1) k)) x4 x5)) x7) x8
        ⟨(j 3).val * 2 + (j 4).val, by have h3 : (j 3).val < 8 := (j 3).isLt; have h4 : (j 4).val < 2 := (j 4).isLt; omega⟩ (j 5) := by
  unfold keyAt
  pointwise [val_main_v32, val_main_v33, val_main_v34, val_main_v35, val_main_v36, val_main_v37, val_main_v38, val_main_v39, val_main_v40,
    val_main_v41, val_main_v42, val_main_v43, val_main_v44, val_main_v45, val_main_v46, val_main_v47, val_main_v50, val_main_cst_3,
    val_main_cst_4, val_main_cst_5, rootOf, proj_p]
  have e : ∀ z : ℕ, 8200 + ((j 3).val * 256 + (j 4).val * 128 + z) = 8200 + 128 * ((j 3).val * 2 + (j 4).val) + z := fun z => by omega
  simp only [e]

/-- The values. -/
theorem val_p (j : S1x4x2048x8x256.Idx) : val_main_v51 (F := Ideal) x0 x2 x4 x5 x6 x7 j
    = projAt (normAt (fun k => x0 (ix3 (j 1) (j 2) k)) x6 (modAt (fun k => x2 (ix2 (j 1) k)) x4 x5)) x7
        ⟨10248 + ((j 3).val * 256 + (j 4).val), by have h3 : (j 3).val < 8 := (j 3).isLt; have h4 : (j 4).val < 256 := (j 4).isLt; omega⟩ := by
  pointwise [val_main_v48, val_main_v49, val_main_v51, proj_p]

/-! ## The decoding group -/

theorem mod_s (j : S32x24576.Idx) : val_main_v60 (F := Ideal) x3 x4 x5 j = modAt (fun k => x3 (ix2 (j 0) k)) x4 x5 (j 1) := by
  unfold modAt
  pointwise [val_main_call1_v0, val_main_call1_v1, val_main_call1_v2, val_main_call1_v3, val_main_call1_v4, val_main_call1_v5,
    val_main_call1_cst, val_main_call1_cst_0, val_main_v52, val_main_v53, val_main_v56, val_main_v57, val_main_v58, val_main_v59,
    val_main_v60, gate]
  simp only [zero_sub]

theorem hid_s (j : S32x1x4096.Idx) : val_main_v80 (F := Ideal) x1 x3 x4 x5 x6 j
    = normAt (fun k => x1 (ix3 (j 0) 0 k)) x6 (modAt (fun k => x3 (ix2 (j 0) k)) x4 x5) (j 2) := by
  unfold normAt
  pointwise [val_main_v54, val_main_v61, val_main_v62, val_main_v63, val_main_v64, val_main_v65, val_main_v66, val_main_v67, val_main_v68,
    val_main_v69, val_main_v70, val_main_v71, val_main_v72, val_main_v73, val_main_v74, val_main_v75, val_main_v76, val_main_v77,
    val_main_v78, val_main_v79, val_main_v80, val_main_cst_6, val_main_cst_7, val_main_cst_8, val_main_cst_9, rootOf, mod_s]
  have e : x1 j = x1 (ix3 (j 0) 0 (j 2)) := congrArg x1 (funext fun a => match a with
    | ⟨0, _⟩ => rfl
    | ⟨1, _⟩ => Subsingleton.elim (α := Fin 1) _ _
    | ⟨2, _⟩ => rfl)
  rw [e]

theorem proj_s (j : S32x1x12296.Idx) : val_main_v81 (F := Ideal) x1 x3 x4 x5 x6 x7 j
    = projAt (normAt (fun k => x1 (ix3 (j 0) 0 k)) x6 (modAt (fun k => x3 (ix2 (j 0) k)) x4 x5)) x7 (j 2) := by
  unfold projAt
  pointwise [val_main_v81, val_main_v55, hid_s]

/-- The keys. -/
theorem key_s (j : S1x32x1x8x2x128.Idx) : val_main_v100 (F := Ideal) x1 x3 x4 x5 x6 x7 x8 j
    = keyAt (projAt (normAt (fun k => x1 (ix3 (j 1) 0 k)) x6 (modAt (fun k => x3 (ix2 (j 1) k)) x4 x5)) x7) x8
        ⟨(j 3).val * 2 + (j 4).val, by have h3 : (j 3).val < 8 := (j 3).isLt; have h4 : (j 4).val < 2 := (j 4).isLt; omega⟩ (j 5) := by
  unfold keyAt
  pointwise [val_main_v82, val_main_v83, val_main_v84, val_main_v85, val_main_v86, val_main_v87, val_main_v88, val_main_v89, val_main_v90,
    val_main_v91, val_main_v92, val_main_v93, val_main_v94, val_main_v95, val_main_v96, val_main_v97, val_main_v100, val_main_cst_10,
    val_main_cst_11, val_main_cst_12, rootOf, proj_s]
  have e : ∀ z : ℕ, 8200 + ((j 3).val * 256 + (j 4).val * 128 + z) = 8200 + 128 * ((j 3).val * 2 + (j 4).val) + z := fun z => by omega
  simp only [e]

/-- The values. -/
theorem val_s (j : S1x32x1x8x256.Idx) : val_main_v101 (F := Ideal) x1 x3 x4 x5 x6 x7 j
    = projAt (normAt (fun k => x1 (ix3 (j 1) 0 k)) x6 (modAt (fun k => x3 (ix2 (j 1) k)) x4 x5)) x7
        ⟨10248 + ((j 3).val * 256 + (j 4).val), by have h3 : (j 3).val < 8 := (j 3).isLt; have h4 : (j 4).val < 256 := (j 4).isLt; omega⟩ := by
  pointwise [val_main_v98, val_main_v99, val_main_v101, proj_s]

/-- The recurrent group's projection. -/
theorem mlstm_s (j : S32x6152.Idx) : val_main_v106 (F := Ideal) x1 x3 x4 x5 x6 x7 j
    = projAt (normAt (fun k => x1 (ix3 (j 0) 0 k)) x6 (modAt (fun k => x3 (ix2 (j 0) k)) x4 x5)) x7
        ⟨(j 1).val, lt_trans (j 1).isLt (by decide)⟩ := by
  pointwise [val_main_v105, val_main_v106, proj_s]

/-- The narrowed weight of the recurrent group. -/
theorem wt_m (j : S6152x4096.Idx) : val_main_v107 (F := Ideal) x7 j = x7 (ix3 0 (j 1) ⟨(j 0).val, lt_trans (j 0).isLt (by decide)⟩) := by
  pointwise [val_main_v102, val_main_v103, val_main_v104, val_main_v107]

/-- The narrowed weight of the attention group. -/
theorem wt_a (j : S6144x4096.Idx) : val_main_v108 (F := Ideal) x7 j
    = x7 (ix3 0 (j 1) ⟨6152 + (j 0).val, by have := (j 0).isLt; change (j 0).val < 6144 at this; omega⟩) := by
  pointwise [val_main_v102, val_main_v103, val_main_v104, val_main_v108]

end Cert.ReferenceIdeal.Value

end
-- ==== Proof.Run.lean ====
/-
  The input stage's run: at its end every buffer outside the calls' own scopes holds the last boundary's contents.
-/
module

public import proofs.«01_k».proof.Proof.Gen.KernelIdeal.Frame
public import proofs.«01_k».proof.Defs

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with each such buffer at the last boundary's contents. -/
theorem ends : θ_run defs (onTc (τ := τ) (main (F := Ideal))) ⟨m, fun _ => 0, ρ⟩ (fun r => ∀ c : Dev nD, ∀ b : Ref sig .tc,
    ¬ (Proc.devRef .tc b : DevRef τ sig).isScoped → r.2.mem ((c.tc : Thread nD τ).loc b) = W17 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h _ => fun c b hb => h c _ (mem_uc b hb))

end Cert.KernelIdeal.Value

end
-- ==== Proof.Agree.lean ====
/-
  The input stage and the layer's mathematics compute the same arrays from the same arguments.
-/
module

public import proofs.«01_k».proof.Proof.Results
public import proofs.«01_k».proof.Proof.RefValues
public import proofs.«01_k».proof.Proof.Run
public import proofs.«01_k».proof.Defs

@[expose] public section

set_option maxRecDepth 16384

noncomputable section

namespace Cert.Proof

open Idealize.ShloMosaic Idealize.ShloMosaic.TcCoe Idealize.SL.Sem
open Cert.KernelIdeal Cert.KernelIdeal.Gen Cert.KernelIdeal.Value

/-- The run with its results and arguments named. -/
theorem kernel_run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v33) = W17 m g c main_v33
      ∧ r.2.mem ((c.tc : Thread nD τ).loc main_v34) = W17 m g c main_v34
      ∧ r.2.mem ((c.tc : Thread nD τ).loc main_v35) = W17 m g c main_v35
      ∧ r.2.mem ((c.tc : Thread nD τ).loc main_v36) = W17 m g c main_v36
      ∧ r.2.mem ((c.tc : Thread nD τ).loc main_v17_1) = W17 m g c main_v17_1
      ∧ r.2.mem ((c.tc : Thread nD τ).loc main_v17_0) = W17 m g c main_v17_0
      ∧ r.2.mem ((c.tc : Thread nD τ).loc main_v18_0) = W17 m g c main_v18_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
      ⟨h c main_v33 (by decide), h c main_v34 (by decide), h c main_v35 (by decide), h c main_v36 (by decide), h c main_v17_1 (by decide), h c main_v17_0 (by decide), h c main_v18_0 (by decide),
       (h c main_arg0 (by decide)).trans (W17_main_arg0 m g c),
       (h c main_arg1 (by decide)).trans (W17_main_arg1 m g c),
       (h c main_arg2 (by decide)).trans (W17_main_arg2 m g c),
       (h c main_arg3 (by decide)).trans (W17_main_arg3 m g c),
       (h c main_arg4 (by decide)).trans (W17_main_arg4 m g c),
       (h c main_arg5 (by decide)).trans (W17_main_arg5 m g c),
       (h c main_arg6 (by decide)).trans (W17_main_arg6 m g c),
       (h c main_arg7 (by decide)).trans (W17_main_arg7 m g c),
       (h c main_arg8 (by decide)).trans (W17_main_arg8 m g c)⟩)
    (ends m g)

/-- The two programs agree on every result. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => W17 m g c main_v33, fun c => W17 m g c main_v34, fun c => W17 m g c main_v35, fun c => W17 m g c main_v36, fun c => W17 m g c main_v17_1, fun c => W17 m g c main_v17_0, fun c => W17 m g c main_v18_0, kernel_run m g, ?_⟩
  refine (θ_run (Cert.ReferenceIdeal.defs (F := Ideal)) _ _).mono (fun r h c => ?_) (Cert.ReferenceIdeal.Value.run (F := Ideal) m' g')
  obtain ⟨kp, vp, ks, vs, pm, wm, wa, hkeep⟩ := h c
  obtain ⟨e0, e1, e2, e3, e4, e5, e6, e7, e8⟩ := hargs c
  refine ⟨kp.trans ?_, vp.trans ?_, ks.trans ?_, vs.trans ?_, pm.trans ?_, wm.trans ?_, wa.trans ?_, hkeep⟩
  · refine (Cert.ReferenceIdeal.Read.val_main_v50_eq m' c).trans (Eq.trans (funext fun j => ?_) (out_kp m g c).symm)
    rw [e0, e2, e4, e5, e6, e7, e8]
    exact Cert.ReferenceIdeal.Value.key_p _ _ _ _ _ _ _ j
  · refine (Cert.ReferenceIdeal.Read.val_main_v51_eq _ _ _ _ _ _).trans (Eq.trans (funext fun j => ?_) (out_vp m g c).symm)
    rw [e0, e2, e4, e5, e6, e7]
    exact Cert.ReferenceIdeal.Value.val_p _ _ _ _ _ _ j
  · refine (Cert.ReferenceIdeal.Read.val_main_v100_eq m' c).trans (Eq.trans (funext fun j => ?_) (out_ks m g c).symm)
    rw [e1, e3, e4, e5, e6, e7, e8]
    exact Cert.ReferenceIdeal.Value.key_s _ _ _ _ _ _ _ j
  · refine (Cert.ReferenceIdeal.Read.val_main_v101_eq _ _ _ _ _ _).trans (Eq.trans (funext fun j => ?_) (out_vs m g c).symm)
    rw [e1, e3, e4, e5, e6, e7]
    exact Cert.ReferenceIdeal.Value.val_s _ _ _ _ _ _ j
  · refine (Cert.ReferenceIdeal.Read.val_main_v106_eq _ _ _ _ _ _).trans (Eq.trans (funext fun j => ?_) (out_pm m g c).symm)
    rw [e1, e3, e4, e5, e6, e7]
    exact Cert.ReferenceIdeal.Value.mlstm_s _ _ _ _ _ _ j
  · refine (Cert.ReferenceIdeal.Read.val_main_v107_eq _).trans (Eq.trans (funext fun j => ?_) (out_wm m g c).symm)
    rw [e7]
    exact Cert.ReferenceIdeal.Value.wt_m _ j
  · refine (Cert.ReferenceIdeal.Read.val_main_v108_eq _).trans (Eq.trans (funext fun j => ?_) (out_wa m g c).symm)
    rw [e7]
    exact Cert.ReferenceIdeal.Value.wt_a _ j

end Cert.Proof

end
-- ==== Proof.Merge.lean ====
/-
  The output projection, the second norm and the first feed-forward product: each call's array result as a function of
  the arrays it reads, at any entry contents.
-/
module

public import proofs.«01_k».proof.Proof.Gen.Kernel2Ideal.Frame
public import proofs.«01_k».proof.Proof.Spec
public import Idealize.ShloMosaic.Lib.Pipeline.ValueKit

@[expose] public section

set_option maxRecDepth 16384

noncomputable section

namespace Cert.Kernel2Ideal.Value

open Idealize.ShloMosaic Idealize.ShloMosaic.TcCoe Idealize.SL.Sem
open Idealize.ShloMosaic.Pipeline (Dat)
open Cert.Kernel2Ideal Cert.Kernel2Ideal.Gen Cert.Spec

variable (V : (c : Dev nD) → (b : Ref sig .tc) → Buf (Elt Ideal) ((c : Thread nD τ).loc b))

/-! ## The decoding group's output projection -/

/-- The residual plus the gated product. -/
abbrev mergeS (a : FVec Ideal S32x4096 .bf16) (w : FVec Ideal S4096x4096 .f32) (x g : FVec Ideal S32x4096 .f32) :
    FVec Ideal S32x4096 .f32 :=
  fun j => x j + g j * ∑ k : Fin 4096, a (ix2 (j 0) k) * w (ix2 k (j 1))

/-- The weight, narrowed. -/
abbrev outN (w : FVec Ideal S4096x4096 .f32) : FVec Ideal S4096x4096 .bf16 := fun j => w j

/-- Where the windows of the call stand at each grid point. -/
theorem idx0 : ∀ t : Fin cfg0.N, win0_0.index t = ![0, 0] ∧ win0_1.index t = ![0, (grid0.coords t 0).val]
    ∧ win0_2.index t = ![0, (grid0.coords t 0).val] ∧ win0_3.index t = ![0, (grid0.coords t 0).val]
    ∧ win0_4.index t = ![0, (grid0.coords t 0).val] ∧ win0_5.index t = ![0, (grid0.coords t 0).val] :=
  (by decide +kernel : ∀ t : Fin grid0.N, _)

/-- What it writes: the narrowed weight … -/
theorem arr0_w (c : Dev nD) (w : FVec Ideal S4096x4096 .f32) (hw : V c main_v2 = w) : (dat0 V c).arrAt 4 cfg0.N = outN w := by
  refine (dat0 V c).arrAt_eq_of_covers 4 _ (by decide +kernel) fun t _ y => ?_
  blk_simp
  rw [after0_4]; frame_out
  subst hw
  pointwise [k0_pay1, outN]
  blk_point [iblk0, idx0 t]

/-- … and the result. -/
theorem arr0_x (c : Dev nD) (a : FVec Ideal S32x4096 .bf16) (w : FVec Ideal S4096x4096 .f32) (x g : FVec Ideal S32x4096 .f32)
    (ha : V c main_arg0 = a) (hw : V c main_v2 = w) (hx : V c main_v1 = x) (hg : V c main_arg2 = g) :
    (dat0 V c).arrAt 5 cfg0.N = mergeS a w x g := by
  refine (dat0 V c).arrAt_eq_of_covers 5 _ (by decide +kernel) fun t _ y => ?_
  blk_simp
  rw [after0_5]; frame_out
  subst ha hw hx hg
  pointwise [k0_pay1, k0_pay2, mergeS]
  blk_point [iblk0, idx0 t]

/-! ## The decoding group's norm -/

/-- The modulated norm of the decoding group. -/
abbrev normS (x : FVec Ideal S32x4096 .f32) (w : FVec Ideal S1x4096 .f32) (sc sh : FVec Ideal S32x4096 .f32) :
    FVec Ideal S32x4096 .bf16 :=
  fun j => x j * rootOf 1166016512#32 (∑ k : Fin 4096, x (ix2 (j 0) k) * x (ix2 (j 0) k)) * w (ix2 0 (j 1)) * (1 + sc j) + sh j

/-- Where the windows of the call stand. -/
theorem idx1 : ∀ t : Fin cfg1.N, win1_0.index t = ![0, 0] ∧ win1_1.index t = ![0, 0]
    ∧ win1_2.index t = ![0, 0] ∧ win1_3.index t = ![0, 0] ∧ win1_4.index t = ![0, 0] :=
  (by decide +kernel : ∀ t : Fin grid1.N, _)

/-- What it writes. -/
theorem arr1 (c : Dev nD) (x : FVec Ideal S32x4096 .f32) (w : FVec Ideal S1x4096 .f32) (sc sh : FVec Ideal S32x4096 .f32)
    (hx : V c main_v3_1 = x) (hw : V c main_v5 = w) (hc : V c main_arg3 = sc) (hh : V c main_arg4 = sh) :
    (dat1 V c).arrAt 4 cfg1.N = normS x w sc sh := by
  refine (dat1 V c).arrAt_eq_of_covers 4 _ (by decide +kernel) fun t _ y => ?_
  blk_simp
  rw [after1_4]; frame_out
  subst hx hw hc hh
  pointwise [k1_pay1, normS, rootOf]
  blk_point [iblk1, idx1 t]

/-! ## The decoding group's first feed-forward product -/

/-- The square of the positive part of the product. -/
abbrev upS (h : FVec Ideal S32x4096 .bf16) (w : FVec Ideal S4096x16384 .f32) : FVec Ideal S32x16384 .bf16 :=
  fun j => max (∑ k : Fin 4096, h (ix2 (j 0) k) * w (ix2 k (j 1))) 0 * max (∑ k : Fin 4096, h (ix2 (j 0) k) * w (ix2 k (j 1))) 0

/-- The weight, narrowed. -/
abbrev upN (w : FVec Ideal S4096x16384 .f32) : FVec Ideal S4096x16384 .bf16 := fun j => w j

/-- Where the windows of the call stand at each grid point. -/
theorem idx2 : ∀ t : Fin cfg2.N, win2_0.index t = ![0, 0] ∧ win2_1.index t = ![0, (grid2.coords t 0).val]
    ∧ win2_2.index t = ![0, (grid2.coords t 0).val] ∧ win2_3.index t = ![0, (grid2.coords t 0).val] :=
  (by decide +kernel : ∀ t : Fin grid2.N, _)

/-- What it writes: the narrowed weight … -/
theorem arr2_w (c : Dev nD) (w : FVec Ideal S4096x16384 .f32) (hw : V c main_v7 = w) : (dat2 V c).arrAt 2 cfg2.N = upN w := by
  refine (dat2 V c).arrAt_eq_of_covers 2 _ (by decide +kernel) fun t _ y => ?_
  blk_simp
  rw [after2_2]; frame_out
  subst hw
  pointwise [k2_pay1, upN]
  blk_point [iblk2, idx2 t]

/-- … and the result. -/
theorem arr2_u (c : Dev nD) (h : FVec Ideal S32x4096 .bf16) (w : FVec Ideal S4096x16384 .f32)
    (hh : V c main_v6 = h) (hw : V c main_v7 = w) : (dat2 V c).arrAt 3 cfg2.N = upS h w := by
  refine (dat2 V c).arrAt_eq_of_covers 3 _ (by decide +kernel) fun t _ y => ?_
  blk_simp
  rw [after2_3]; frame_out
  subst hh hw
  pointwise [k2_pay1, k2_pay2, upS]
  blk_point [iblk2, idx2 t]

/-! ## The prompt group's output projection -/

/-- The residual plus the gated product: the first half of the weight's rows meets `a`, the second `b`. -/
abbrev mergeP (a b : FVec Ideal S8192x2048 .bf16) (w : FVec Ideal S4096x4096 .bf16) (x : FVec Ideal S8192x4096 .f32)
    (g : FVec Ideal S4x1x4096 .f32) : FVec Ideal S8192x4096 .f32 :=
  fun j => x j + g (ix3 ⟨(j 0).val / 2048, by have := (j 0).isLt; change (j 0).val < 8192 at this; omega⟩ 0 (j 1))
    * ((∑ k : Fin 2048, a (ix2 (j 0) k) * w (ix2 ⟨k.val, by omega⟩ (j 1)))
      + ∑ k : Fin 2048, b (ix2 (j 0) k) * w (ix2 ⟨2048 + k.val, by omega⟩ (j 1)))

/-- Where the windows of the call stand at each grid point. -/
theorem idx3 : ∀ t : Fin cfg3.N, win3_0.index t = ![(grid3.coords t 0).val, 0] ∧ win3_1.index t = ![0, (grid3.coords t 1).val]
    ∧ win3_2.index t = ![(grid3.coords t 0).val, 0] ∧ win3_3.index t = ![1, (grid3.coords t 1).val]
    ∧ win3_4.index t = ![(grid3.coords t 0).val, (grid3.coords t 1).val]
    ∧ win3_5.index t = ![(grid3.coords t 0).val / 2, 0, (grid3.coords t 1).val]
    ∧ win3_6.index t = ![(grid3.coords t 0).val, (grid3.coords t 1).val] :=
  (by decide +kernel : ∀ t : Fin grid3.N, _)

/-- What it writes. -/
theorem arr3 (c : Dev nD) (a b : FVec Ideal S8192x2048 .bf16) (w : FVec Ideal S4096x4096 .bf16) (x : FVec Ideal S8192x4096 .f32)
    (g : FVec Ideal S4x1x4096 .f32) (ha : V c main_arg5 = a) (hb : V c main_arg6 = b) (hw : V c main_v3_0 = w) (hx : V c main_v0 = x)
    (hg : V c main_v9 = g) : (dat3 V c).arrAt 6 cfg3.N = mergeP a b w x g := by
  refine (dat3 V c).arrAt_eq_of_covers 6 _ (by decide +kernel) fun t _ y => ?_
  blk_simp
  rw [after3_6]; frame_out
  subst ha hb hw hx hg
  pointwise [k3_pay1, mergeP]
  blk_point [iblk3, idx3 t]

/-! ## The prompt group's norm -/

/-- The modulated norm of the prompt group, 2048 rows to a request. -/
abbrev normP (x : FVec Ideal S8192x4096 .f32) (w : FVec Ideal S1x4096 .f32) (sc sh : FVec Ideal S4x1x4096 .f32) :
    FVec Ideal S8192x4096 .bf16 :=
  fun j => x j * rootOf 1166016512#32 (∑ k : Fin 4096, x (ix2 (j 0) k) * x (ix2 (j 0) k)) * w (ix2 0 (j 1))
    * (1 + sc (ix3 ⟨(j 0).val / 2048, by have := (j 0).isLt; change (j 0).val < 8192 at this; omega⟩ 0 (j 1)))
    + sh (ix3 ⟨(j 0).val / 2048, by have := (j 0).isLt; change (j 0).val < 8192 at this; omega⟩ 0 (j 1))

/-- Where the windows of the call stand at each grid point. -/
theorem idx4 : ∀ t : Fin cfg4.N, win4_0.index t = ![(grid4.coords t 0).val, 0] ∧ win4_1.index t = ![0, 0]
    ∧ win4_2.index t = ![(grid4.coords t 0).val / 4, 0, 0] ∧ win4_3.index t = ![(grid4.coords t 0).val / 4, 0, 0]
    ∧ win4_4.index t = ![(grid4.coords t 0).val, 0] :=
  (by decide +kernel : ∀ t : Fin grid4.N, _)

/-- What it writes. -/
theorem arr4 (c : Dev nD) (x : FVec Ideal S8192x4096 .f32) (w : FVec Ideal S1x4096 .f32) (sc sh : FVec Ideal S4x1x4096 .f32)
    (hx : V c main_v10 = x) (hw : V c main_v14 = w) (hc : V c main_v12 = sc) (hh : V c main_v13 = sh) :
    (dat4 V c).arrAt 4 cfg4.N = normP x w sc sh := by
  refine (dat4 V c).arrAt_eq_of_covers 4 _ (by decide +kernel) fun t _ y => ?_
  blk_simp
  rw [after4_4]; frame_out
  subst hx hw hc hh
  pointwise [k4_pay1, normP, rootOf]
  blk_point [iblk4, idx4 t]

/-! ## The prompt group's first feed-forward product -/

/-- The square of the positive part of the product. -/
abbrev upP (h : FVec Ideal S8192x4096 .bf16) (w : FVec Ideal S4096x16384 .bf16) : FVec Ideal S8192x16384 .bf16 :=
  fun j => max (∑ k : Fin 4096, h (ix2 (j 0) k) * w (ix2 k (j 1))) 0 * max (∑ k : Fin 4096, h (ix2 (j 0) k) * w (ix2 k (j 1))) 0

/-- Where the windows of the call stand at each grid point. -/
theorem idx5 : ∀ t : Fin cfg5.N, win5_0.index t = ![(grid5.coords t 0).val, 0] ∧ win5_1.index t = ![0, (grid5.coords t 1).val]
    ∧ win5_2.index t = ![(grid5.coords t 0).val, (grid5.coords t 1).val] :=
  (by decide +kernel : ∀ t : Fin grid5.N, _)

/-- What it writes. -/
theorem arr5 (c : Dev nD) (h : FVec Ideal S8192x4096 .bf16) (w : FVec Ideal S4096x16384 .bf16)
    (hh : V c main_v15 = h) (hw : V c main_v8_0 = w) : (dat5 V c).arrAt 2 cfg5.N = upP h w := by
  refine (dat5 V c).arrAt_eq_of_covers 2 _ (by decide +kernel) fun t _ y => ?_
  blk_simp
  rw [after5_2]; frame_out
  subst hh hw
  pointwise [k5_pay1, upP]
  blk_point [iblk5, idx5 t]

end Cert.Kernel2Ideal.Value

end
-- ==== Proof.MergeSpec.lean ====
/-
  The mathematics of the layer's output projection, second norm and first feed-forward product, one token at a time,
  over the extended reals; and the plain form's results read as it.
-/
module

public import proofs.«01_k».proof.Proof.Spec
public import proofs.«01_k».proof.Proof.Gen.Reference2Ideal.Read
public import Idealize.ShloMosaic.Lib.Pipeline.ValueKit

@[expose] public section

set_option maxRecDepth 16384

noncomputable section

namespace Cert.Spec

open Idealize.ShloMosaic

/-- A prompt token's mixers side by side. -/
def mixAt (a b : FVec Ideal ⟨2, ![8192, 2048]⟩ .bf16) (r : Fin 8192) (k : Fin 4096) : EReal :=
  if h : k.val < 2048 then a (ix2 r ⟨k.val, h⟩) else b (ix2 r ⟨k.val - 2048, by omega⟩)

/-- A token's residual plus its gated output projection. -/
def mergeAt (a x g : Fin 4096 → EReal) (w : FVec Ideal ⟨3, ![1, 4096, 4096]⟩ .f32) (q : Fin 4096) : EReal :=
  x q + g q * ∑ k : Fin 4096, a k * w (ix3 0 k q)

/-- A token's second modulated norm. -/
def norm2At (x : Fin 4096 → EReal) (g : FVec Ideal ⟨2, ![1, 4096]⟩ .f32) (sc sh : Fin 4096 → EReal) (k : Fin 4096) : EReal :=
  x k * rootOf 1166016512#32 (∑ i : Fin 4096, x i * x i) * g (ix2 0 k) * (1 + sc k) + sh k

/-- The square of the positive part of a token's first feed-forward product. -/
def upAt (h : Fin 4096 → EReal) (w : FVec Ideal ⟨3, ![1, 4096, 16384]⟩ .f32) (q : Fin 16384) : EReal :=
  max (∑ k : Fin 4096, h k * w (ix3 0 k q)) 0 * max (∑ k : Fin 4096, h k * w (ix3 0 k q)) 0

/-- A sum over the mixers is the sum over the first and the sum over the second. -/
theorem mix_sum (a b : FVec Ideal ⟨2, ![8192, 2048]⟩ .bf16) (r : Fin 8192) (f : Fin 4096 → EReal) :
    ∑ k : Fin 4096, mixAt a b r k * f k
      = (∑ k : Fin 2048, a (ix2 r k) * f ⟨k.val, by omega⟩) + ∑ k : Fin 2048, b (ix2 r k) * f ⟨2048 + k.val, by omega⟩ := by
  refine (Fin.sum_univ_add (a := 2048) (b := 2048) (fun k : Fin (2048 + 2048) => mixAt a b r k * f k)).trans ?_
  refine congrArg₂ (· + ·) (Finset.sum_congr rfl fun k _ => ?_) (Finset.sum_congr rfl fun k _ => ?_)
  · show mixAt a b r ⟨k.val, _⟩ * f ⟨k.val, _⟩ = _
    unfold mixAt
    rw [dif_pos k.isLt]
  · show mixAt a b r ⟨2048 + k.val, _⟩ * f ⟨2048 + k.val, _⟩ = _
    unfold mixAt
    rw [dif_neg (by show ¬ 2048 + k.val < 2048; omega)]
    have e : 2048 + k.val - 2048 = k.val := by omega
    simp only [e]

end Cert.Spec

namespace Cert.Reference2Ideal.Value

open Idealize.ShloMosaic Idealize.ShloMosaic.TcCoe Idealize.SL.Sem
open Cert.Reference2Ideal Cert.Reference2Ideal.Gen Cert.Reference2Ideal.Read Cert.Spec

variable (x0 : FVec Ideal S32x4096 .bf16) (x1 : FVec Ideal S32x1x4096 .f32) (x2 x3 x4 : FVec Ideal S32x4096 .f32)
  (x5 x6 : FVec Ideal S8192x2048 .bf16) (x7 : FVec Ideal S4x2048x4096 .f32) (x8 x9 x10 : FVec Ideal S4x4096 .f32)
  (x11 : FVec Ideal S1x4096x4096 .f32) (x12 : FVec Ideal S1x4096 .f32) (x13 : FVec Ideal S1x4096x16384 .f32)

/-! ## The prompt group -/

/-- Row `t` of request `b`, counted through the requests. -/
abbrev rowOf (b : Fin 4) (t : Fin 2048) : Fin 8192 := ⟨b.val * 2048 + t.val, by omega⟩

theorem mix_row (j : S8192x4096.Idx) : val_main_v0 (F := Ideal) x5 x6 j = mixAt x5 x6 (j 0) (j 1) := by
  unfold mixAt
  pointwise [val_main_v0]

theorem wide_at (y : FVec Ideal S4x2048x4096 .bf16) (j : S4x2048x4096.Idx) :
    (extf .f32 y bitsLt_bf16_f32 : FVec Ideal S4x2048x4096 .f32) j = y j := rfl

theorem mix_wide (j : S4x2048x4096.Idx) : val_main_v6 (F := Ideal) x5 x6 j = val_main_v1 (F := Ideal) x5 x6 j :=
  wide_at (val_main_v1 (F := Ideal) x5 x6) j

theorem mix_split (j : S4x2048x4096.Idx) : val_main_v1 (F := Ideal) x5 x6 j = val_main_v0 (F := Ideal) x5 x6 (ix2 (rowOf (j 0) (j 1)) (j 2)) := by
  unfold val_main_v1
  refine shapeCast_apply _ _ j _ ?_
  rw [Shape.rowMajor_val_two, Shape.rowMajor_val_three]
  show (rowOf (j 0) (j 1)).val * 4096 + (j 2).val = ((j 0).val * 2048 + (j 1).val) * 4096 + (j 2).val
  rfl

theorem mix_p (j : S4x2048x4096.Idx) : val_main_v6 (F := Ideal) x5 x6 j = mixAt x5 x6 (rowOf (j 0) (j 1)) (j 2) :=
  (mix_wide x5 x6 j).trans ((mix_split x5 x6 j).trans (mix_row x5 x6 (ix2 (rowOf (j 0) (j 1)) (j 2))))

theorem merge_p (j : S4x2048x4096.Idx) : val_main_v10 (F := Ideal) x5 x6 x7 x8 x11 j
    = mergeAt (mixAt x5 x6 (rowOf (j 0) (j 1))) (fun k => x7 (ix3 (j 0) (j 1) k)) (fun k => x8 (ix2 (j 0) k)) x11 (j 2) := by
  unfold mergeAt
  pointwise [val_main_v2, val_main_v5, val_main_v7, val_main_v8, val_main_v9, val_main_v10, mix_p]

theorem norm_p (j : S4x2048x4096.Idx) : val_main_v31 (F := Ideal) x5 x6 x7 x8 x9 x10 x11 x12 j
    = norm2At (mergeAt (mixAt x5 x6 (rowOf (j 0) (j 1))) (fun k => x7 (ix3 (j 0) (j 1) k)) (fun k => x8 (ix2 (j 0) k)) x11) x12
        (fun k => x9 (ix2 (j 0) k)) (fun k => x10 (ix2 (j 0) k)) (j 2) := by
  unfold norm2At
  pointwise [val_main_v3, val_main_v11, val_main_v12, val_main_v13, val_main_v14, val_main_v15, val_main_v16,
    val_main_v17, val_main_v18, val_main_v19, val_main_v20, val_main_v21, val_main_v22, val_main_v23, val_main_v24, val_main_v25,
    val_main_v26, val_main_v27, val_main_v28, val_main_v29, val_main_v30, val_main_v31, val_main_cst, val_main_cst_0, val_main_cst_1,
    val_main_cst_2, rootOf, merge_p]

theorem up_p (j : S4x2048x16384.Idx) : val_main_v35 (F := Ideal) x5 x6 x7 x8 x9 x10 x11 x12 x13 j
    = upAt (norm2At (mergeAt (mixAt x5 x6 (rowOf (j 0) (j 1))) (fun k => x7 (ix3 (j 0) (j 1) k)) (fun k => x8 (ix2 (j 0) k)) x11) x12
        (fun k => x9 (ix2 (j 0) k)) (fun k => x10 (ix2 (j 0) k))) x13 (j 2) := by
  unfold upAt
  pointwise [val_main_v4, val_main_v32, val_main_call0_cst, val_main_call0_v0, val_main_v33, val_main_v34, val_main_v35, norm_p]

/-! ## The decoding group -/

theorem merge_s (j : S32x1x4096.Idx) : val_main_v44 (F := Ideal) x0 x1 x2 x11 j
    = mergeAt (fun k => x0 (ix2 (j 0) k)) (fun k => x1 (ix3 (j 0) 0 k)) (fun k => x2 (ix2 (j 0) k)) x11 (j 2) := by
  unfold mergeAt
  pointwise [val_main_v36, val_main_v37, val_main_v40, val_main_v41, val_main_v42, val_main_v43, val_main_v44]
  have e : x1 j = x1 (ix3 (j 0) 0 (j 2)) := congrArg x1 (funext fun a => match a with
    | ⟨0, _⟩ => rfl
    | ⟨1, _⟩ => Subsingleton.elim (α := Fin 1) _ _
    | ⟨2, _⟩ => rfl)
  rw [e]

theorem norm_s (j : S32x1x4096.Idx) : val_main_v63 (F := Ideal) x0 x1 x2 x3 x4 x11 x12 j
    = norm2At (mergeAt (fun k => x0 (ix2 (j 0) k)) (fun k => x1 (ix3 (j 0) 0 k)) (fun k => x2 (ix2 (j 0) k)) x11) x12
        (fun k => x3 (ix2 (j 0) k)) (fun k => x4 (ix2 (j 0) k)) (j 2) := by
  unfold norm2At
  pointwise [val_main_v38, val_main_v45, val_main_v46, val_main_v47, val_main_v48, val_main_v49, val_main_v50, val_main_v51,
    val_main_v52, val_main_v53, val_main_v54, val_main_v55, val_main_v56, val_main_v57, val_main_v58, val_main_v59, val_main_v60,
    val_main_v61, val_main_v62, val_main_v63, val_main_cst_3, val_main_cst_4, val_main_cst_5, val_main_cst_6, rootOf, merge_s]

theorem up_s (j : S32x1x16384.Idx) : val_main_v67 (F := Ideal) x0 x1 x2 x3 x4 x11 x12 x13 j
    = upAt (norm2At (mergeAt (fun k => x0 (ix2 (j 0) k)) (fun k => x1 (ix3 (j 0) 0 k)) (fun k => x2 (ix2 (j 0) k)) x11) x12
        (fun k => x3 (ix2 (j 0) k)) (fun k => x4 (ix2 (j 0) k))) x13 (j 2) := by
  unfold upAt
  pointwise [val_main_v39, val_main_v64, val_main_call1_cst, val_main_call1_v0, val_main_v65, val_main_v66, val_main_v67, norm_s]

/-! ## The results -/

theorem res_x1 (j : S8192x4096.Idx) : val_main_v68 (F := Ideal) x5 x6 x7 x8 x11 j
    = val_main_v10 (F := Ideal) x5 x6 x7 x8 x11 (ix3 ⟨(j 0).val / 2048, by have := (j 0).isLt; change (j 0).val < 8192 at this; omega⟩
        ⟨(j 0).val % 2048, Nat.mod_lt _ (by decide)⟩ (j 1)) := by
  pointwise [val_main_v68]

theorem res_u (j : S8192x16384.Idx) : val_main_v69 (F := Ideal) x5 x6 x7 x8 x9 x10 x11 x12 x13 j
    = val_main_v35 (F := Ideal) x5 x6 x7 x8 x9 x10 x11 x12 x13 (ix3 ⟨(j 0).val / 2048, by have := (j 0).isLt; change (j 0).val < 8192 at this; omega⟩
        ⟨(j 0).val % 2048, Nat.mod_lt _ (by decide)⟩ (j 1)) := by
  pointwise [val_main_v69]

theorem res_x1_s (j : S32x4096.Idx) : val_main_v70 (F := Ideal) x0 x1 x2 x11 j
    = val_main_v44 (F := Ideal) x0 x1 x2 x11 (ix3 (j 0) 0 (j 1)) := by
  pointwise [val_main_v70]

theorem res_u_s (j : S32x16384.Idx) : val_main_v71 (F := Ideal) x0 x1 x2 x3 x4 x11 x12 x13 j
    = val_main_v67 (F := Ideal) x0 x1 x2 x3 x4 x11 x12 x13 (ix3 (j 0) 0 (j 1)) := by
  pointwise [val_main_v71]

theorem res_w_out : val_main_v73 (F := Ideal) x11 = fun j => x11 (ix3 0 (j 0) (j 1)) := by
  funext j
  pointwise [val_main_v72, val_main_v73]

theorem res_w_up : val_main_v75 (F := Ideal) x13 = fun j => x13 (ix3 0 (j 0) (j 1)) := by
  funext j
  pointwise [val_main_v74, val_main_v75]

end Cert.Reference2Ideal.Value

end
-- ==== Proof.MergeValues.lean ====
/-
  The buffers of the output projection, second norm and first feed-forward product, boundary by boundary, as functions
  of the arguments.
-/
module

public import proofs.«01_k».proof.Proof.Merge
public import proofs.«01_k».proof.Proof.MergeSpec
public import Idealize.ShloMosaic.Lib.StableHlo.ReadAt

@[expose] public section

set_option maxRecDepth 16384

noncomputable section

namespace Cert.Kernel2Ideal.Value

open Idealize.ShloMosaic Idealize.ShloMosaic.TcCoe Idealize.SL.Sem
open Idealize.ShloMosaic.Pipeline (Dat)
open Cert.Kernel2Ideal Cert.Kernel2Ideal.Gen Cert.Spec

variable (m : (ℓ : Loc nD τ sig) → Buf (Elt Ideal) ℓ) (ρ : Dev nD → PrngReg) (c : Dev nD)

/-! ## The arguments -/

abbrev mS : FVec Ideal S32x4096 .bf16 := m ((c : Thread nD τ).loc main_arg0)
abbrev xS : FVec Ideal S32x1x4096 .f32 := m ((c : Thread nD τ).loc main_arg1)
abbrev gS : FVec Ideal S32x4096 .f32 := m ((c : Thread nD τ).loc main_arg2)
abbrev scS : FVec Ideal S32x4096 .f32 := m ((c : Thread nD τ).loc main_arg3)
abbrev shS : FVec Ideal S32x4096 .f32 := m ((c : Thread nD τ).loc main_arg4)
abbrev mA : FVec Ideal S8192x2048 .bf16 := m ((c : Thread nD τ).loc main_arg5)
abbrev mB : FVec Ideal S8192x2048 .bf16 := m ((c : Thread nD τ).loc main_arg6)
abbrev xP : FVec Ideal S4x2048x4096 .f32 := m ((c : Thread nD τ).loc main_arg7)
abbrev gP : FVec Ideal S4x4096 .f32 := m ((c : Thread nD τ).loc main_arg8)
abbrev scP : FVec Ideal S4x4096 .f32 := m ((c : Thread nD τ).loc main_arg9)
abbrev shP : FVec Ideal S4x4096 .f32 := m ((c : Thread nD τ).loc main_arg10)
abbrev wOut : FVec Ideal S1x4096x4096 .f32 := m ((c : Thread nD τ).loc main_arg11)
abbrev gNorm : FVec Ideal S1x4096 .f32 := m ((c : Thread nD τ).loc main_arg12)
abbrev wUp : FVec Ideal S1x4096x16384 .f32 := m ((c : Thread nD τ).loc main_arg13)

/-- A decoding request's stream after the mixers. -/
abbrev midS (r : Fin 32) : Fin 4096 → EReal :=
  mergeAt (fun k => mS m c (ix2 r k)) (fun k => xS m c (ix3 r 0 k)) (fun k => gS m c (ix2 r k)) (wOut m c)
/-- Its second norm. -/
abbrev hidS (r : Fin 32) : Fin 4096 → EReal :=
  norm2At (midS m c r) (gNorm m c) (fun k => scS m c (ix2 r k)) (fun k => shS m c (ix2 r k))
/-- A row of the prompts, by request and place. -/
abbrev reqOf (r : Fin 8192) : Fin 4 := ⟨r.val / 2048, by omega⟩
abbrev placeOf (r : Fin 8192) : Fin 2048 := ⟨r.val % 2048, Nat.mod_lt _ (by decide)⟩
/-- A prompt token's stream after the mixers. -/
abbrev midP (r : Fin 8192) : Fin 4096 → EReal :=
  mergeAt (mixAt (mA m c) (mB m c) r) (fun k => xP m c (ix3 (reqOf r) (placeOf r) k)) (fun k => gP m c (ix2 (reqOf r) k)) (wOut m c)
/-- Its second norm. -/
abbrev hidP (r : Fin 8192) : Fin 4096 → EReal :=
  norm2At (midP m c r) (gNorm m c) (fun k => scP m c (ix2 (reqOf r) k)) (fun k => shP m c (ix2 (reqOf r) k))

/-! ## The decoding group -/

theorem v1_at : (W1 m ρ c main_v1 : FVec Ideal S32x4096 .f32) = fun j => xS m c (ix3 (j 0) 0 (j 1)) := by
  funext j
  after_reads_at

theorem v2_at : (W1 m ρ c main_v2 : FVec Ideal S4096x4096 .f32) = fun j => wOut m c (ix3 0 (j 0) (j 1)) := by
  funext j
  after_reads_at

theorem v3_0_at : (W2 m ρ c main_v3_0 : FVec Ideal S4096x4096 .bf16) = fun j => wOut m c (ix3 0 (j 0) (j 1)) :=
  (W2_arr m ρ c 4).trans (arr0_w (V1 m ρ) c _ (v2_at m ρ c))

theorem v3_1_at : (W2 m ρ c main_v3_1 : FVec Ideal S32x4096 .f32) = fun j => midS m c (j 0) (j 1) := by
  refine ((W2_arr m ρ c 5).trans (arr0_x (V1 m ρ) c (mS m c) _ _ (gS m c) (W1_args m ρ c main_arg0 (by decide)) (v2_at m ρ c) (v1_at m ρ c)
    (W1_args m ρ c main_arg2 (by decide)))).trans ?_
  funext j
  have e : gS m c j = gS m c (ix2 (j 0) (j 1)) := congrArg (gS m c) (funext fun a => match a with
    | ⟨0, _⟩ => rfl
    | ⟨1, _⟩ => rfl)
  show _ + gS m c j * _ = _
  rw [e]
  rfl

theorem v5_at : (W3 m ρ c main_v5 : FVec Ideal S1x4096 .f32) = fun j => gNorm m c (ix2 0 (j 1)) := by
  funext j
  after_reads_at
  exact congrFun (W2_args m ρ c main_arg12 (by decide)) _

theorem v6_at : (W4 m ρ c main_v6 : FVec Ideal S32x4096 .bf16) = fun j => hidS m c (j 0) (j 1) := by
  refine ((W4_arr m ρ c 4).trans (arr1 (V3 m ρ) c _ (fun j => gNorm m c (ix2 0 (j 1))) (scS m c) (shS m c)
    ((W3_of m ρ c main_v3_1 (by decide)).trans (v3_1_at m ρ c)) (v5_at m ρ c)
    (W3_args m ρ c main_arg3 (by decide)) (W3_args m ρ c main_arg4 (by decide)))).trans ?_
  funext j
  have e : j = ix2 (j 0) (j 1) := funext fun a => match a with
    | ⟨0, _⟩ => rfl
    | ⟨1, _⟩ => rfl
  show _ * (1 + scS m c j) + shS m c j = _
  rw [congrArg (scS m c) e, congrArg (shS m c) e]
  rfl

theorem v7_at : (W5 m ρ c main_v7 : FVec Ideal S4096x16384 .f32) = fun j => wUp m c (ix3 0 (j 0) (j 1)) := by
  funext j
  after_reads_at
  exact congrFun (W4_args m ρ c main_arg13 (by decide)) _

theorem v8_0_at : (W6 m ρ c main_v8_0 : FVec Ideal S4096x16384 .bf16) = fun j => wUp m c (ix3 0 (j 0) (j 1)) :=
  (W6_arr m ρ c 2).trans (arr2_w (V5 m ρ) c _ (v7_at m ρ c))

theorem v8_1_at : (W6 m ρ c main_v8_1 : FVec Ideal S32x16384 .bf16) = fun j => upAt (hidS m c (j 0)) (wUp m c) (j 1) :=
  (W6_arr m ρ c 3).trans (arr2_u (V5 m ρ) c _ _ ((W5_of m ρ c main_v6 (by decide)).trans (v6_at m ρ c)) (v7_at m ρ c))

/-! ## The prompt group -/

/-- What the two buffers the host prepares first hold when the prompt group is reached. -/
theorem v0_at : (W7 m ρ c main_v0 : FVec Ideal S8192x4096 .f32) = fun j => xP m c (ix3 (reqOf (j 0)) (placeOf (j 0)) (j 1)) := by
  refine ((W7_of m ρ c main_v0 (by decide)).trans ((W6_of m ρ c main_v0 (by decide)).trans ((W5_of m ρ c main_v0 (by decide)).trans
    ((W4_of m ρ c main_v0 (by decide)).trans ((W3_of m ρ c main_v0 (by decide)).trans (W2_of m ρ c main_v0 (by decide))))))).trans ?_
  funext j
  after_reads_at

theorem v3_0_at' : (W7 m ρ c main_v3_0 : FVec Ideal S4096x4096 .bf16) = fun j => wOut m c (ix3 0 (j 0) (j 1)) :=
  (W7_of m ρ c main_v3_0 (by decide)).trans ((W6_of m ρ c main_v3_0 (by decide)).trans ((W5_of m ρ c main_v3_0 (by decide)).trans
    ((W4_of m ρ c main_v3_0 (by decide)).trans ((W3_of m ρ c main_v3_0 (by decide)).trans (v3_0_at m ρ c)))))

theorem v9_at : (W7 m ρ c main_v9 : FVec Ideal S4x1x4096 .f32) = fun j => gP m c (ix2 (j 0) (j 2)) := by
  funext j
  after_reads_at
  exact congrFun (W6_args m ρ c main_arg8 (by decide)) _

theorem v10_at : (W8 m ρ c main_v10 : FVec Ideal S8192x4096 .f32) = fun j => midP m c (j 0) (j 1) := by
  refine ((W8_arr m ρ c 6).trans (arr3 (V7 m ρ) c (mA m c) (mB m c) _ _ _ (W7_args m ρ c main_arg5 (by decide))
    (W7_args m ρ c main_arg6 (by decide)) (v3_0_at' m ρ c) (v0_at m ρ c) (v9_at m ρ c))).trans ?_
  funext j
  exact congrArg (fun z => xP m c (ix3 (reqOf (j 0)) (placeOf (j 0)) (j 1)) + gP m c (ix2 (reqOf (j 0)) (j 1)) * z)
    (mix_sum (mA m c) (mB m c) (j 0) (fun k => wOut m c (ix3 0 k (j 1)))).symm

theorem v12_at : (W9 m ρ c main_v12 : FVec Ideal S4x1x4096 .f32) = fun j => scP m c (ix2 (j 0) (j 2)) := by
  funext j
  after_reads_at
  exact congrFun (W8_args m ρ c main_arg9 (by decide)) _

theorem v13_at : (W9 m ρ c main_v13 : FVec Ideal S4x1x4096 .f32) = fun j => shP m c (ix2 (j 0) (j 2)) := by
  funext j
  after_reads_at
  exact congrFun (W8_args m ρ c main_arg10 (by decide)) _

theorem v14_at : (W9 m ρ c main_v14 : FVec Ideal S1x4096 .f32) = fun j => gNorm m c (ix2 0 (j 1)) := by
  funext j
  after_reads_at
  exact congrFun (W8_args m ρ c main_arg12 (by decide)) _

theorem v15_at : (W10 m ρ c main_v15 : FVec Ideal S8192x4096 .bf16) = fun j => hidP m c (j 0) (j 1) :=
  (W10_arr m ρ c 4).trans (arr4 (V9 m ρ) c _ (fun j => gNorm m c (ix2 0 (j 1))) _ _
    ((W9_of m ρ c main_v10 (by decide)).trans (v10_at m ρ c)) (v14_at m ρ c) (v12_at m ρ c) (v13_at m ρ c))

/-! ## The results -/

theorem out_x1 : (W11 m ρ c main_v10 : FVec Ideal S8192x4096 .f32) = fun j => midP m c (j 0) (j 1) :=
  (W11_of m ρ c main_v10 (by decide)).trans ((W10_of m ρ c main_v10 (by decide)).trans
    ((W9_of m ρ c main_v10 (by decide)).trans (v10_at m ρ c)))

theorem keep6 (b : Ref sig .tc) (h6 : ∀ w : Fin cfg5.W, Pipeline.arrRef spec5 w = b → (cfg5.win w).isOut = false)
    (h5 : ∀ w : Fin cfg4.W, Pipeline.arrRef spec4 w = b → (cfg4.win w).isOut = false) (h4 : b ∉ hostOps4_W)
    (h3 : ∀ w : Fin cfg3.W, Pipeline.arrRef spec3 w = b → (cfg3.win w).isOut = false) (h2 : b ∉ hostOps3_W) :
    W11 m ρ c (Proc.devRef .tc b) = W6 m ρ c (Proc.devRef .tc b) :=
  (W11_of m ρ c b h6).trans ((W10_of m ρ c b h5).trans ((W9_of m ρ c b h4).trans ((W8_of m ρ c b h3).trans (W7_of m ρ c b h2))))

theorem out_w_up : (W11 m ρ c main_v8_0 : FVec Ideal S4096x16384 .bf16) = fun j => wUp m c (ix3 0 (j 0) (j 1)) :=
  (keep6 m ρ c main_v8_0 (by decide) (by decide) (by decide) (by decide) (by decide)).trans (v8_0_at m ρ c)

theorem out_u : (W11 m ρ c main_v16 : FVec Ideal S8192x16384 .bf16) = fun j => upAt (hidP m c (j 0)) (wUp m c) (j 1) :=
  (W11_arr m ρ c 2).trans (arr5 (V10 m ρ) c _ (fun j => wUp m c (ix3 0 (j 0) (j 1))) (v15_at m ρ c)
    ((W11_of m ρ c main_v8_0 (by decide)).symm.trans (out_w_up m ρ c)))

theorem out_u_s : (W11 m ρ c main_v8_1 : FVec Ideal S32x16384 .bf16) = fun j => upAt (hidS m c (j 0)) (wUp m c) (j 1) :=
  (keep6 m ρ c main_v8_1 (by decide) (by decide) (by decide) (by decide) (by decide)).trans (v8_1_at m ρ c)

theorem out_x1_s : (W11 m ρ c main_v3_1 : FVec Ideal S32x4096 .f32) = fun j => midS m c (j 0) (j 1) :=
  (keep6 m ρ c main_v3_1 (by decide) (by decide) (by decide) (by decide) (by decide)).trans
    ((W6_of m ρ c main_v3_1 (by decide)).trans ((W5_of m ρ c main_v3_1 (by decide)).trans
      ((W4_of m ρ c main_v3_1 (by decide)).trans ((W3_of m ρ c main_v3_1 (by decide)).trans (v3_1_at m ρ c)))))

theorem out_w_out : (W11 m ρ c main_v3_0 : FVec Ideal S4096x4096 .bf16) = fun j => wOut m c (ix3 0 (j 0) (j 1)) :=
  (keep6 m ρ c main_v3_0 (by decide) (by decide) (by decide) (by decide) (by decide)).trans
    ((W7_of m ρ c main_v3_0 (by decide)).symm.trans (v3_0_at' m ρ c))

end Cert.Kernel2Ideal.Value

end
-- ==== Proof.Run2.lean ====
/-
  The merge stage's run: at its end every buffer outside the calls' own scopes holds the last boundary's contents.
-/
module

public import proofs.«01_k».proof.Proof.Gen.Kernel2Ideal.Frame
public import proofs.«01_k».proof.Defs

@[expose] public section

set_option maxRecDepth 16384

noncomputable section

namespace Cert.Kernel2Ideal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal Cert.Kernel2Ideal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every execution ends with each such buffer at the last boundary's contents. -/
theorem ends : θ_run defs (onTc (τ := τ) (main (F := Ideal))) ⟨m, fun _ => 0, ρ⟩ (fun r => ∀ c : Dev nD, ∀ b : Ref sig .tc,
    ¬ (Proc.devRef .tc b : DevRef τ sig).isScoped → r.2.mem ((c.tc : Thread nD τ).loc b) = W11 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ => fun c b hb => h c _ (mem_uc b hb))

end Cert.Kernel2Ideal.Value

end
-- ==== Proof.Agree2.lean ====
/-
  The output projection, second norm and first feed-forward product, and their plain form, compute the same arrays.
-/
module

public import proofs.«01_k».proof.Proof.MergeValues
public import proofs.«01_k».proof.Proof.Run2
public import proofs.«01_k».proof.Defs

@[expose] public section

set_option maxRecDepth 16384

noncomputable section

namespace Cert.Reference2Ideal.Value

open Idealize.ShloMosaic Idealize.ShloMosaic.TcCoe
open Cert.Spec

/-- A row of the prompts is the row of its request and place. -/
theorem row_split (r : Fin 8192) : rowOf ⟨r.val / 2048, by omega⟩ ⟨r.val % 2048, Nat.mod_lt _ (by decide)⟩ = r :=
  Fin.ext (by show r.val / 2048 * 2048 + r.val % 2048 = r.val; omega)

end Cert.Reference2Ideal.Value

namespace Cert.Proof

open Idealize.ShloMosaic Idealize.ShloMosaic.TcCoe Idealize.SL.Sem
open Cert.Kernel2Ideal Cert.Kernel2Ideal.Gen Cert.Kernel2Ideal.Value

/-- The run with its results and arguments named. -/
theorem kernel_run2 (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v10) = W11 m g c main_v10
      ∧ r.2.mem ((c.tc : Thread nD τ).loc main_v16) = W11 m g c main_v16
      ∧ r.2.mem ((c.tc : Thread nD τ).loc main_v3_1) = W11 m g c main_v3_1
      ∧ r.2.mem ((c.tc : Thread nD τ).loc main_v8_1) = W11 m g c main_v8_1
      ∧ r.2.mem ((c.tc : Thread nD τ).loc main_v3_0) = W11 m g c main_v3_0
      ∧ r.2.mem ((c.tc : Thread nD τ).loc main_v8_0) = W11 m g c main_v8_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
      ⟨h c main_v10 (by decide), h c main_v16 (by decide), h c main_v3_1 (by decide), h c main_v8_1 (by decide), h c main_v3_0 (by decide), h c main_v8_0 (by decide),
       (h c main_arg0 (by decide)).trans (W11_main_arg0 m g c),
       (h c main_arg1 (by decide)).trans (W11_main_arg1 m g c),
       (h c main_arg2 (by decide)).trans (W11_main_arg2 m g c),
       (h c main_arg3 (by decide)).trans (W11_main_arg3 m g c),
       (h c main_arg4 (by decide)).trans (W11_main_arg4 m g c),
       (h c main_arg5 (by decide)).trans (W11_main_arg5 m g c),
       (h c main_arg6 (by decide)).trans (W11_main_arg6 m g c),
       (h c main_arg7 (by decide)).trans (W11_main_arg7 m g c),
       (h c main_arg8 (by decide)).trans (W11_main_arg8 m g c),
       (h c main_arg9 (by decide)).trans (W11_main_arg9 m g c),
       (h c main_arg10 (by decide)).trans (W11_main_arg10 m g c),
       (h c main_arg11 (by decide)).trans (W11_main_arg11 m g c),
       (h c main_arg12 (by decide)).trans (W11_main_arg12 m g c),
       (h c main_arg13 (by decide)).trans (W11_main_arg13 m g c)⟩)
    (ends m g)

theorem frame_reference2 : Cert.quiescent_Reference2Ideal (hReference2Ideal := Cert.Reference2Ideal.Gen.facts) := fun m g _ =>
  (θ_run Cert.Reference2Ideal.defs _ _).mono (fun r h => ⟨fun c => (h c).2.2.2.2.2.2, sem_eq_zero_of_no_sems (by decide) r.2⟩)
    (Cert.Reference2Ideal.Value.run (F := Ideal) m g)

/-- The two programs agree on every result. -/
theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => W11 m g c main_v10, fun c => W11 m g c main_v16, fun c => W11 m g c main_v3_1, fun c => W11 m g c main_v8_1, fun c => W11 m g c main_v3_0, fun c => W11 m g c main_v8_0, kernel_run2 m g, ?_⟩
  refine (θ_run (Cert.Reference2Ideal.defs (F := Ideal)) _ _).mono (fun r h c => ?_) (Cert.Reference2Ideal.Value.run (F := Ideal) m' g')
  obtain ⟨x1, u, xs, us, wo, wu, hkeep⟩ := h c
  obtain ⟨e0, e1, e2, e3, e4, e5, e6, e7, e8, e9, e10, e11, e12, e13⟩ := hargs c
  refine ⟨x1.trans ?_, u.trans ?_, xs.trans ?_, us.trans ?_, wo.trans ?_, wu.trans ?_, hkeep⟩
  · refine (Cert.Reference2Ideal.Read.val_main_v68_eq _ _ _ _ _).trans (Eq.trans (funext fun j => ?_) (out_x1 m g c).symm)
    rw [e5, e6, e7, e8, e11]
    refine ((Cert.Reference2Ideal.Value.res_x1 _ _ _ _ _ j).trans (Cert.Reference2Ideal.Value.merge_p _ _ _ _ _ _)).trans ?_
    exact congrArg (fun r => Cert.Spec.mergeAt (Cert.Spec.mixAt (mA m c) (mB m c) r) _ _ (wOut m c) (j 1))
      (Cert.Reference2Ideal.Value.row_split (j 0))
  · refine (Cert.Reference2Ideal.Read.val_main_v69_eq m' c).trans (Eq.trans (funext fun j => ?_) (out_u m g c).symm)
    rw [e5, e6, e7, e8, e9, e10, e11, e12, e13]
    refine ((Cert.Reference2Ideal.Value.res_u _ _ _ _ _ _ _ _ _ j).trans (Cert.Reference2Ideal.Value.up_p _ _ _ _ _ _ _ _ _ _)).trans ?_
    exact congrArg (fun r => Cert.Spec.upAt (Cert.Spec.norm2At (Cert.Spec.mergeAt (Cert.Spec.mixAt (mA m c) (mB m c) r) _ _ (wOut m c))
      (gNorm m c) _ _) (wUp m c) (j 1)) (Cert.Reference2Ideal.Value.row_split (j 0))
  · refine (Cert.Reference2Ideal.Read.val_main_v70_eq _ _ _ _).trans (Eq.trans (funext fun j => ?_) (out_x1_s m g c).symm)
    rw [e0, e1, e2, e11]
    exact (Cert.Reference2Ideal.Value.res_x1_s _ _ _ _ j).trans (Cert.Reference2Ideal.Value.merge_s _ _ _ _ _)
  · refine (Cert.Reference2Ideal.Read.val_main_v71_eq m' c).trans (Eq.trans (funext fun j => ?_) (out_u_s m g c).symm)
    rw [e0, e1, e2, e3, e4, e11, e12, e13]
    exact (Cert.Reference2Ideal.Value.res_u_s _ _ _ _ _ _ _ _ j).trans (Cert.Reference2Ideal.Value.up_s _ _ _ _ _ _ _ _ _)
  · refine (Cert.Reference2Ideal.Read.val_main_v73_eq _).trans (Eq.trans ?_ (out_w_out m g c).symm)
    rw [e11]
    exact Cert.Reference2Ideal.Value.res_w_out _
  · refine (Cert.Reference2Ideal.Read.val_main_v75_eq _).trans (Eq.trans ?_ (out_w_up m g c).symm)
    rw [e13]
    exact Cert.Reference2Ideal.Value.res_w_up _

end Cert.Proof

end
-- ==== Proof.DownS.lean ====
/-
  The sample group's second feed-forward product: each block of columns is accumulated over eight grid points in a
  scratch array, and the last of the eight writes the residual plus the gated product. Every point also writes the
  narrowed block of the weight it reads.
-/
module

public import proofs.«01_k».proof.Proof.Gen.Kernel3Ideal.Value
public import Idealize.ShloMosaic.Lib.Pipeline.ValueKit
public import proofs.«01_k».proof.Proof.Gen.Reference3Ideal.Read
public import proofs.«01_k».proof.Defs

@[expose] public section

set_option maxRecDepth 16384

noncomputable section

namespace Cert.Kernel3Ideal.Value

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ) (c : Dev nD)

/-- The residual plus the gated product. -/
abbrev down (u : FVec Ideal S32x16384 .bf16) (x g : FVec Ideal S32x4096 .f32) (w : FVec Ideal S1x16384x4096 .f32) :
    FVec Ideal S32x4096 .f32 :=
  fun j => x j + g j * ∑ k : Fin 16384, u (ix2 (j 0) k) * w (ix3 (0 : Fin 1) k (j 1))

/-- The weight, its leading axis of one dropped. -/
abbrev narrow (w : FVec Ideal S1x16384x4096 .f32) : FVec Ideal S16384x4096 .bf16 := fun j => w (ix3 (0 : Fin 1) (j 0) (j 1))

/-- Where the windows of the call stand at each grid point. -/
theorem idx : ∀ t : Fin cfg0.N, win0_0.index t = ![0, t.val % 8] ∧ win0_1.index t = ![t.val % 8, t.val / 8]
    ∧ win0_2.index t = ![0, t.val / 8] ∧ win0_3.index t = ![0, t.val / 8]
    ∧ win0_4.index t = ![t.val % 8, t.val / 8] ∧ win0_5.index t = ![0, t.val / 8] :=
  (by decide +kernel : ∀ t : Fin grid0.N, _)

theorem lt_points (t : Fin cfg0.N) : t.val < 32 := lt_of_lt_of_eq t.isLt N_0

/-- The arguments. -/
abbrev uA : FVec Ideal S32x16384 .bf16 := m ((c.tc : Thread nD τ).loc main_arg0)
abbrev xA : FVec Ideal S32x4096 .f32 := m ((c.tc : Thread nD τ).loc main_arg1)
abbrev gA : FVec Ideal S32x4096 .f32 := m ((c.tc : Thread nD τ).loc main_arg2)
abbrev wA : FVec Ideal S1x16384x4096 .f32 := m ((c.tc : Thread nD τ).loc main_arg3)

/-- The part of the product over 2048 columns from column `2048 a` on, at row `y` and column `1024 q + z`. -/
def part (u : FVec Ideal S32x16384 .bf16) (w : FVec Ideal S1x16384x4096 .f32) (q : Fin 4) (a : Fin 8) (y : Fin 32) (z : Fin 1024) : EReal :=
  ∑ k : Fin 2048, u (ix2 y ⟨2048 * a.val + k.val, by omega⟩)
    * w (ix3 (0 : Fin 1) ⟨2048 * a.val + k.val, by omega⟩ ⟨1024 * q.val + z.val, by omega⟩)

abbrev partAt (t : Fin cfg0.N) (j : S32x1024.Idx) : EReal :=
  part (uA m c) (wA m c) ⟨t.val / 8, by have := lt_points t; omega⟩ ⟨t.val % 8, by omega⟩ (j 0) (j 1)

/-- The first point of a run leaves its part in the scratch. -/
theorem first (t : Fin cfg0.N) (h : t.val % 8 = 0) (j : S32x1024.Idx) : (outsAt0 m c t.val t.isLt).2.2 j = partAt m c t j := by
  rw [outsAt0_A m c t h (by omega) (by omega)]; frame_out
  unfold partAt part
  pointwise [k0_pay1, k0_pay2, k0_pay3]
  blk_point [iblk, V, idx t]

/-- Every other point adds its own. -/
theorem next (t : Fin cfg0.N) (h : 1 ≤ t.val % 8) (j : S32x1024.Idx) :
    (outsAt0 m c t.val t.isLt).2.2 j
      = (outsAt0 m c (t.val - 1) (Nat.lt_of_le_of_lt (Nat.sub_le _ _) t.isLt)).2.2 j + partAt m c t j := by
  by_cases h7 : t.val % 8 = 7
  · rw [outsAt0_C m c t (by omega) h h7]; frame_out
    unfold partAt part
    pointwise [k0_pay1, k0_pay2, k0_pay4]
    blk_point [iblk, V, idx t]
    exact congrFun (Memref.IsWhole.read_unread _ _) j
  · rw [outsAt0_B m c t (by omega) h h7]; frame_out
    unfold partAt part
    pointwise [k0_pay1, k0_pay2, k0_pay4]
    blk_point [iblk, V, idx t]
    exact congrFun (Memref.IsWhole.read_unread _ _) j

/-- The last writes the residual plus the gated sum. -/
theorem last (t : Fin cfg0.N) (h : t.val % 8 = 7) (j : S32x1024.Idx) :
    (outsAt0 m c t.val t.isLt).2.1 j
      = xA m c (ix2 (j 0) ⟨1024 * (t.val / 8) + (j 1).val, by have := lt_points t; have : (j 1).val < 1024 := (j 1).isLt; omega⟩)
      + gA m c (ix2 (j 0) ⟨1024 * (t.val / 8) + (j 1).val, by have := lt_points t; have : (j 1).val < 1024 := (j 1).isLt; omega⟩)
        * ((outsAt0 m c (t.val - 1) (Nat.lt_of_le_of_lt (Nat.sub_le _ _) t.isLt)).2.2 j + partAt m c t j) := by
  rw [outsAt0_C m c t (by omega) (by omega) h]; frame_out
  unfold partAt part
  pointwise [k0_pay1, k0_pay2, k0_pay4, k0_pay5]
  blk_point [iblk, V, idx t]
  exact congrFun (Memref.IsWhole.read_unread _ _) j

/-- Every point writes the block of the weight it reads. -/
theorem narrows (t : Fin cfg0.N) (j : S2048x1024.Idx) : (outsAt0 m c t.val t.isLt).1 j
    = wA m c (ix3 (0 : Fin 1) ⟨2048 * (t.val % 8) + (j 0).val, by have : (j 0).val < 2048 := (j 0).isLt; omega⟩
        ⟨1024 * (t.val / 8) + (j 1).val, by have := lt_points t; have : (j 1).val < 1024 := (j 1).isLt; omega⟩) := by
  by_cases h0 : t.val % 8 = 0
  · rw [outsAt0_A m c t h0 (by omega) (by omega)]; frame_out
    pointwise [k0_pay1]
    blk_point [iblk, V, idx t]
  · by_cases h7 : t.val % 8 = 7
    · rw [outsAt0_C m c t h0 (by omega) h7]; frame_out
      pointwise [k0_pay1]
      blk_point [iblk, V, idx t]
    · rw [outsAt0_B m c t h0 (by omega) h7]; frame_out
      pointwise [k0_pay1]
      blk_point [iblk, V, idx t]

/-- The eight parts are the product. -/
theorem parts (u : FVec Ideal S32x16384 .bf16) (w : FVec Ideal S1x16384x4096 .f32) (q : Fin 4) (y : Fin 32) (z : Fin 1024) :
    ∑ a : Fin 8, part u w q a y z
      = ∑ k : Fin 16384, u (ix2 y k) * w (ix3 (0 : Fin 1) k ⟨1024 * q.val + z.val, by omega⟩) := by
  unfold part
  refine Fin.sum_mul_add_congr fun s k hl => ?_
  have e : 2048 * s.val + k.val = s.val * 2048 + k.val := by omega
  simp only [e]

/-- What the scratch holds at a point: the parts up to its own. -/
theorem scratch (q : Fin 4) (j : S32x1024.Idx) : ∀ (a : ℕ) (h : 8 * q.val + a < cfg0.N) (h8 : a < 8),
    (outsAt0 m c (8 * q.val + a) h).2.2 j
      = ∑ b : Fin (a + 1), part (uA m c) (wA m c) q ⟨b.val, by omega⟩ (j 0) (j 1)
  | 0, h, h8 => by
    have e := first m c ⟨8 * q.val + 0, h⟩ (by show (8 * q.val + 0) % 8 = 0; omega) j
    have e1 : (8 * q.val + 0) / 8 = q.val := by omega
    have e2 : (8 * q.val + 0) % 8 = 0 := by omega
    refine e.trans ?_
    show part _ _ ⟨(8 * q.val + 0) / 8, _⟩ ⟨(8 * q.val + 0) % 8, _⟩ _ _ = _
    simp only [e1, e2]
    exact (Fin.sum_univ_one (fun b : Fin 1 => part (uA m c) (wA m c) q ⟨b.val, by omega⟩ (j 0) (j 1))).symm
  | a + 1, h, h8 => by
    have e := next m c ⟨8 * q.val + (a + 1), h⟩ (by show 1 ≤ (8 * q.val + (a + 1)) % 8; omega) j
    have e1 : (8 * q.val + (a + 1)) / 8 = q.val := by omega
    have e2 : (8 * q.val + (a + 1)) % 8 = a + 1 := by omega
    refine e.trans ?_
    rw [Fin.sum_univ_castSucc]
    refine congrArg₂ (· + ·) (scratch q j a (by omega) (by omega)) ?_
    show part _ _ ⟨(8 * q.val + (a + 1)) / 8, _⟩ ⟨(8 * q.val + (a + 1)) % 8, _⟩ _ _ = _
    simp only [e1, e2]
    rfl

theorem flush_last : ∀ t : Fin cfg0.N, (cfg0.win 5).flush t = true → t.val % 8 = 7 :=
  (by decide +kernel : ∀ t : Fin grid0.N, (cfg0.win 5).flush t = true → t.val % 8 = 7)

/-- What the call writes: the narrowed weight … -/
theorem final_w : (dats m 0 c).arrAt 4 cfg0.N = narrow (wA m c) := by
  refine (dats m 0 c).arrAt_eq_of_covers 4 _ (by decide +kernel) fun t hf y => ?_
  have hN := lt_points t
  blk_simp
  rw [after0_4, narrows m c t]
  unfold narrow
  blk_point [idx t]

/-- … and the result. -/
theorem final_y : (dats m 0 c).arrAt 5 cfg0.N = down (uA m c) (xA m c) (gA m c) (wA m c) := by
  refine (dats m 0 c).arrAt_eq_of_covers 5 _ (by decide +kernel) fun t hf y => ?_
  have h7 := flush_last t hf
  have hN := lt_points t
  blk_simp
  rw [after0_5, last m c t h7, ← next m c t (by omega)]
  have e : (outsAt0 m c t.val t.isLt).2.2 y
      = ∑ k : Fin 16384, uA m c (ix2 (y 0) k)
        * wA m c (ix3 (0 : Fin 1) k ⟨1024 * (t.val / 8) + (y 1).val, by have : (y 1).val < 1024 := (y 1).isLt; omega⟩) := by
    refine Eq.trans ?_ (parts _ _ ⟨t.val / 8, by omega⟩ (y 0) (y 1))
    refine Eq.trans ?_ (scratch m c ⟨t.val / 8, by omega⟩ y 7 (by show 8 * (t.val / 8) + 7 < _; have := N_0; omega) (by omega))
    have et : 8 * (t.val / 8) + 7 = t.val := by omega
    show _ = (outsAt0 m c (8 * (t.val / 8) + 7) _).2.2 y
    simp only [et]
  rw [e]
  unfold down
  blk_point [idx t]

end Cert.Kernel3Ideal.Value

namespace Cert.Proof

open Idealize.ShloMosaic Idealize.ShloMosaic.TcCoe Idealize.SL.Sem

/-- The plain form's result, read at an index. -/
theorem down_plain_s (u : FVec Ideal Cert.Reference3Ideal.S32x16384 .bf16) (x g : FVec Ideal Cert.Reference3Ideal.S32x4096 .f32)
    (w : FVec Ideal Cert.Reference3Ideal.S1x16384x4096 .f32) :
    Cert.Reference3Ideal.Read.val_main_v4 (F := Ideal) u x g w = Cert.Kernel3Ideal.Value.down u x g w := by
  funext j
  open Cert.Reference3Ideal.Read in
  pointwise [val_main_v0, val_main_v1, val_main_v2, val_main_v3, val_main_v4, Cert.Kernel3Ideal.Value.down]

/-- The plain form's narrowed weight. -/
theorem narrow_plain (w : FVec Ideal Cert.Reference3Ideal.S1x16384x4096 .f32) :
    Cert.Reference3Ideal.Read.val_main_v6 (F := Ideal) w = Cert.Kernel3Ideal.Value.narrow w := by
  funext j
  open Cert.Reference3Ideal.Read in
  pointwise [val_main_v5, val_main_v6, Cert.Kernel3Ideal.Value.narrow]

theorem frame_reference3 : Cert.quiescent_Reference3Ideal (hReference3Ideal := Cert.Reference3Ideal.Gen.facts) := fun m g _ =>
  (θ_run Cert.Reference3Ideal.defs _ _).mono (fun r h => ⟨fun c => (h c).2.2, sem_eq_zero_of_no_sems (by decide) r.2⟩)
    (Cert.Reference3Ideal.Value.run (F := Ideal) m g)

/-- The two programs agree. -/
theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Value.down (Cert.Kernel3Ideal.Value.uA m c) (Cert.Kernel3Ideal.Value.xA m c)
    (Cert.Kernel3Ideal.Value.gA m c) (Cert.Kernel3Ideal.Value.wA m c),
    fun c => Cert.Kernel3Ideal.Value.narrow (Cert.Kernel3Ideal.Value.wA m c),
    (θ_run (Cert.Kernel3Ideal.defs (F := Ideal)) _ _).mono (fun r h c => ⟨(h c).2.1.trans (Cert.Kernel3Ideal.Value.final_y m c),
        (h c).1.trans (Cert.Kernel3Ideal.Value.final_w m c), (h c).2.2⟩)
      (Cert.Kernel3Ideal.Value.run_blocks (F := Ideal) m g), ?_⟩
  refine (θ_run (Cert.Reference3Ideal.defs (F := Ideal)) _ _).mono (fun r h c => ⟨(h c).1.trans ?_, (h c).2.1.trans ?_, (h c).2.2⟩)
    (Cert.Reference3Ideal.Value.run (F := Ideal) m' g')
  all_goals obtain ⟨e0, e1, e2, e3⟩ := hargs c
  · refine (Cert.Reference3Ideal.Read.val_main_v4_eq _ _ _ _).trans ?_
    rw [e0, e1, e2, e3]
    exact down_plain_s _ _ _ _
  · refine (Cert.Reference3Ideal.Read.val_main_v6_eq _).trans ?_
    rw [e3]
    exact narrow_plain _

end Cert.Proof

end
-- ==== Proof.Down.lean ====
/-
  The prompt group's second feed-forward product: each block is accumulated over four grid points in the block of the
  result itself, and the last of the four adds the residual. The array written is the whole product.
-/
module

public import proofs.«01_k».proof.Proof.Gen.Kernel4Ideal.Value
public import Idealize.ShloMosaic.Lib.Pipeline.ValueKit

@[expose] public section

set_option maxRecDepth 16384

noncomputable section

namespace Cert.Kernel4Ideal.Value

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ) (c : Dev nD)

/-- The residual plus the gated product. -/
abbrev down (u : FVec Ideal S8192x16384 .bf16) (x : FVec Ideal S8192x4096 .f32) (g : FVec Ideal S4x4096 .f32)
    (w : FVec Ideal S16384x4096 .bf16) : FVec Ideal S8192x4096 .f32 :=
  fun j => x j + g (ix2 ⟨(j 0).val / 2048, by have := (j 0).isLt; change (j 0).val < 8192 at this; omega⟩ (j 1))
    * ∑ k : Fin 16384, u (ix2 (j 0) k) * w (ix2 k (j 1))

/-- Where the windows of the call stand at each grid point. -/
theorem idx : ∀ t : Fin cfg0.N, win0_0.index t = ![t.val / 16, t.val % 4] ∧ win0_1.index t = ![t.val % 4, t.val / 4 % 4]
    ∧ win0_2.index t = ![t.val / 16, t.val / 4 % 4] ∧ win0_3.index t = ![t.val / 32, 0, t.val / 4 % 4]
    ∧ win0_4.index t = ![t.val / 16, t.val / 4 % 4] :=
  (by decide +kernel : ∀ t : Fin grid0.N, _)

theorem lt_points (t : Fin cfg0.N) : t.val < 128 := lt_of_lt_of_eq t.isLt N_0

/-- The arguments. -/
abbrev uA : FVec Ideal S8192x16384 .bf16 := m ((c.tc : Thread nD τ).loc main_arg0)
abbrev xA : FVec Ideal S8192x4096 .f32 := m ((c.tc : Thread nD τ).loc main_arg1)
abbrev gA : FVec Ideal S4x4096 .f32 := m ((c.tc : Thread nD τ).loc main_arg2)
abbrev wA : FVec Ideal S16384x4096 .bf16 := m ((c.tc : Thread nD τ).loc main_arg3)

/-- The part of the product over 4096 columns from column `4096 a` on, at row `1024 r + y` and column `1024 q + z`. -/
def part (u : FVec Ideal S8192x16384 .bf16) (w : FVec Ideal S16384x4096 .bf16) (r : Fin 8) (q a : Fin 4) (y z : Fin 1024) : EReal :=
  ∑ k : Fin 4096, u (ix2 ⟨1024 * r.val + y.val, by omega⟩ ⟨4096 * a.val + k.val, by omega⟩)
    * w (ix2 ⟨4096 * a.val + k.val, by omega⟩ ⟨1024 * q.val + z.val, by omega⟩)

abbrev partAt (t : Fin cfg0.N) (j : S1024x1024.Idx) : EReal :=
  part (uA m c) (wA m c) ⟨t.val / 16, by have := lt_points t; omega⟩ ⟨t.val / 4 % 4, by omega⟩ ⟨t.val % 4, by omega⟩ (j 0) (j 1)

/-- The first point of a run leaves its part. -/
theorem first (t : Fin cfg0.N) (h : t.val % 4 = 0) (j : S1024x1024.Idx) : outsAt0 m c t.val t.isLt j = partAt m c t j := by
  rw [outsAt0_A m c t h (by omega) (by omega)]; frame_out
  unfold partAt part
  pointwise [k0_pay1]
  blk_point [iblk, V, idx t]

/-- The two points after it add theirs. -/
theorem next (t : Fin cfg0.N) (h : 1 ≤ t.val % 4 ∧ t.val % 4 ≤ 2) (j : S1024x1024.Idx) :
    outsAt0 m c t.val t.isLt j = outsAt0 m c (t.val - 1) (Nat.lt_of_le_of_lt (Nat.sub_le _ _) t.isLt) j + partAt m c t j := by
  rw [outsAt0_B m c t (by omega) h (by omega)]; frame_out
  unfold partAt part
  pointwise [k0_pay2]
  blk_point [iblk, V, idx t]

/-- The last adds its own, and the residual. -/
theorem last (t : Fin cfg0.N) (h : t.val % 4 = 3) (j : S1024x1024.Idx) :
    outsAt0 m c t.val t.isLt j = xA m c (ix2 ⟨1024 * (t.val / 16) + (j 0).val, by have := lt_points t; have : (j 0).val < 1024 := (j 0).isLt; omega⟩
        ⟨1024 * (t.val / 4 % 4) + (j 1).val, by have : (j 1).val < 1024 := (j 1).isLt; omega⟩)
      + gA m c (ix2 ⟨t.val / 32, by have := lt_points t; omega⟩ ⟨1024 * (t.val / 4 % 4) + (j 1).val, by have : (j 1).val < 1024 := (j 1).isLt; omega⟩)
        * (outsAt0 m c (t.val - 1) (Nat.lt_of_le_of_lt (Nat.sub_le _ _) t.isLt) j + partAt m c t j) := by
  rw [outsAt0_C m c t (by omega) (by omega) h]; frame_out
  unfold partAt part
  pointwise [k0_pay3]
  blk_point [iblk, V, idx t]

/-- The four parts are the product. -/
theorem parts (u : FVec Ideal S8192x16384 .bf16) (w : FVec Ideal S16384x4096 .bf16) (r : Fin 8) (q : Fin 4) (y z : Fin 1024) :
    ((part u w r q 0 y z + part u w r q 1 y z) + part u w r q 2 y z) + part u w r q 3 y z
      = ∑ k : Fin 16384, u (ix2 ⟨1024 * r.val + y.val, by omega⟩ k) * w (ix2 k ⟨1024 * q.val + z.val, by omega⟩) := by
  rw [← Fin.sum_univ_four (fun a : Fin 4 => part u w r q a y z)]
  unfold part
  refine Fin.sum_mul_add_congr fun s k hl => ?_
  have e : 4096 * s.val + k.val = s.val * 4096 + k.val := by omega
  simp only [e]

/-- A point's part, named by another point of its run. -/
theorem partAt_run (t s : Fin cfg0.N) (a : Fin 4) (h : s.val / 4 = t.val / 4) (ha : s.val % 4 = a.val) (j : S1024x1024.Idx) :
    partAt m c s j = part (uA m c) (wA m c) ⟨t.val / 16, by have := lt_points t; omega⟩ ⟨t.val / 4 % 4, by omega⟩ a (j 0) (j 1) := by
  have e1 : s.val / 16 = t.val / 16 := by omega
  have e2 : s.val / 4 % 4 = t.val / 4 % 4 := by omega
  show part _ _ ⟨s.val / 16, _⟩ ⟨s.val / 4 % 4, _⟩ ⟨s.val % 4, _⟩ _ _ = _
  simp only [e1, e2, ha]

theorem flush_last : ∀ t : Fin cfg0.N, (cfg0.win 4).flush t = true → t.val % 4 = 3 :=
  (by decide +kernel : ∀ t : Fin grid0.N, (cfg0.win 4).flush t = true → t.val % 4 = 3)

/-- What the call writes. -/
theorem final : (dats m 0 c).arrAt 4 cfg0.N = down (uA m c) (xA m c) (gA m c) (wA m c) := by
  refine (dats m 0 c).arrAt_eq_of_covers 4 _ (by decide +kernel) fun t hf y => ?_
  have h3 := flush_last t hf
  have hN := lt_points t
  blk_simp
  rw [after0_4, last m c t h3]
  have e : outsAt0 m c (t.val - 1) (Nat.lt_of_le_of_lt (Nat.sub_le _ _) t.isLt) y + partAt m c t y
      = ∑ k : Fin 16384, uA m c (ix2 ⟨1024 * (t.val / 16) + (y 0).val, by have : (y 0).val < 1024 := (y 0).isLt; omega⟩ k)
        * wA m c (ix2 k ⟨1024 * (t.val / 4 % 4) + (y 1).val, by have : (y 1).val < 1024 := (y 1).isLt; omega⟩) := by
    have e2 := next m c ⟨t.val - 1, by omega⟩ (by show 1 ≤ (t.val - 1) % 4 ∧ (t.val - 1) % 4 ≤ 2; omega) y
    have e1 := next m c ⟨t.val - 1 - 1, by omega⟩ (by show 1 ≤ (t.val - 1 - 1) % 4 ∧ (t.val - 1 - 1) % 4 ≤ 2; omega) y
    have e0 := first m c ⟨t.val - 1 - 1 - 1, by omega⟩ (by show (t.val - 1 - 1 - 1) % 4 = 0; omega) y
    rw [partAt_run m c t _ 2 (by show (t.val - 1) / 4 = _; omega) (by show (t.val - 1) % 4 = 2; omega)] at e2
    rw [partAt_run m c t _ 1 (by show (t.val - 1 - 1) / 4 = _; omega) (by show (t.val - 1 - 1) % 4 = 1; omega)] at e1
    rw [partAt_run m c t _ 0 (by show (t.val - 1 - 1 - 1) / 4 = _; omega) (by show (t.val - 1 - 1 - 1) % 4 = 0; omega)] at e0
    rw [partAt_run m c t t 3 rfl h3]
    refine Eq.trans ?_ (parts _ _ ⟨t.val / 16, by omega⟩ ⟨t.val / 4 % 4, by omega⟩ (y 0) (y 1))
    exact congrArg (· + _) (e2.trans (congrArg (· + _) (e1.trans (congrArg (· + _) e0))))
  rw [e]
  unfold down
  blk_point [idx t]

end Cert.Kernel4Ideal.Value

end
-- ==== Proof.DownAgree.lean ====
/-
  The prompt group's second feed-forward product and its plain form compute the same array.
-/
module

public import proofs.«01_k».proof.Proof.Down
public import proofs.«01_k».proof.Proof.Gen.Reference4Ideal.Read
public import proofs.«01_k».proof.Defs

@[expose] public section

set_option maxRecDepth 16384

noncomputable section

namespace Cert.Proof

open Idealize.ShloMosaic Idealize.ShloMosaic.TcCoe Idealize.SL.Sem

/-- The plain form, read at an index. -/
theorem down_plain (u : FVec Ideal Cert.Reference4Ideal.S8192x16384 .bf16) (x : FVec Ideal Cert.Reference4Ideal.S8192x4096 .f32)
    (g : FVec Ideal Cert.Reference4Ideal.S4x4096 .f32) (w : FVec Ideal Cert.Reference4Ideal.S16384x4096 .bf16) :
    Cert.Reference4Ideal.Read.val_main_v9 (F := Ideal) u x g w = Cert.Kernel4Ideal.Value.down u x g w := by
  funext j
  open Cert.Reference4Ideal.Read in
  pointwise [val_main_v0, val_main_v1, val_main_v2, val_main_v3, val_main_v4, val_main_v5, val_main_v6, val_main_v7, val_main_v8, val_main_v9,
    Cert.Kernel4Ideal.Value.down]

theorem frame_reference4 : Cert.quiescent_Reference4Ideal (hReference4Ideal := Cert.Reference4Ideal.Gen.facts) := fun m g _ =>
  (θ_run Cert.Reference4Ideal.defs _ _).mono (fun r h => ⟨fun c => (h c).2, sem_eq_zero_of_no_sems (by decide) r.2⟩)
    (Cert.Reference4Ideal.Value.run (F := Ideal) m g)

/-- The two programs agree. -/
theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Value.down (Cert.Kernel4Ideal.Value.uA m c) (Cert.Kernel4Ideal.Value.xA m c)
    (Cert.Kernel4Ideal.Value.gA m c) (Cert.Kernel4Ideal.Value.wA m c),
    (θ_run (Cert.Kernel4Ideal.defs (F := Ideal)) _ _).mono (fun r h c => ⟨(h c).1.trans (Cert.Kernel4Ideal.Value.final m c), (h c).2⟩)
      (Cert.Kernel4Ideal.Value.run_blocks (F := Ideal) m g), ?_⟩
  refine (θ_run (Cert.Reference4Ideal.defs (F := Ideal)) _ _).mono (fun r h c => ⟨(h c).1.trans ?_, (h c).2⟩)
    (Cert.Reference4Ideal.Value.run (F := Ideal) m' g')
  obtain ⟨e0, e1, e2, e3⟩ := hargs c
  refine (Cert.Reference4Ideal.Read.val_main_v9_eq _ _ _ _).trans ?_
  rw [e0, e1, e2, e3]
  exact down_plain _ _ _ _

end Cert.Proof

end
-- ==== Proof.InMul.lean ====
/-
  The mLSTM group's part of the prompt's input projection: each block of the result is one product over the whole inner axis,
  so the array written is the plain product with the first 6144 rows of the narrowed weight.
-/
module

public import proofs.«01_k».proof.Proof.Gen.Kernel5Ideal.Value
public import proofs.«01_k».proof.Proof.Gen.Reference5Ideal.Read
public import proofs.«01_k».proof.Defs
public import Idealize.ShloMosaic.Lib.Pipeline.ValueKit

@[expose] public section

set_option maxRecDepth 16384

noncomputable section

namespace Cert.Kernel5Ideal.Value

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ) (c : Dev nD)

/-- The rows of `h` times the first rows of the transposed weight. -/
abbrev inMul (h : FVec Ideal S8192x4096 .bf16) (w : FVec Ideal S6152x4096 .bf16) : FVec Ideal S8192x6144 .f32 :=
  fun j => ∑ k : Fin 4096, h (ix2 (j 0) k) * w (ix2 ⟨(j 1).val, lt_trans (j 1).isLt (by decide : 6144 < 6152)⟩ k)

/-- Where the windows of the call stand at each grid point. -/
theorem idx : ∀ t : Fin cfg0.N, win0_0.index t = ![(grid0.coords t 0).val, 0] ∧ win0_1.index t = ![(grid0.coords t 1).val, 0]
    ∧ win0_2.index t = ![(grid0.coords t 0).val, (grid0.coords t 1).val] :=
  (by decide +kernel : ∀ t : Fin grid0.N, _)

/-- The weight window's block, whole: element `z` is in the row that the block's number gives. -/
theorem weight (t : Fin cfg0.N) (z : S1024x4096.Idx) : X0_1 m c t z = (m ((c.tc : Thread nD τ).loc main_arg1) : FVec Ideal S6152x4096 .bf16)
    (ix2 ⟨1024 * (grid0.coords t 1).val + (z 0).val, by
      have h1 : (grid0.coords t 1).val < 6 := (grid0.coords t 1).isLt
      have h2 : (z 0).val < 1024 := (z 0).isLt
      omega⟩ (z 1)) := by
  unfold X0_1 Pipeline.Window.fill
  rw [dif_pos (moved0_1 t z)]
  blk_point [iblk, V, idx t]

/-- What the call writes. -/
theorem final : (dats m 0 c).arrAt 2 cfg0.N
    = inMul (m ((c.tc : Thread nD τ).loc main_arg0)) (m ((c.tc : Thread nD τ).loc main_arg1)) := by
  refine (dats m 0 c).arrAt_eq_of_covers 2 _ (by decide +kernel) fun t _ y => ?_
  blk_simp
  rw [after0_2]
  unfold outsAt0
  frame_out
  have e := weight m c t
  generalize X0_1 m c t = x1 at e ⊢
  pointwise [k0_pay1, inMul]
  simp only [e]
  blk_point [iblk, V, idx t]

end Cert.Kernel5Ideal.Value

namespace Cert.Proof

open Idealize.ShloMosaic Idealize.ShloMosaic.TcCoe Idealize.SL.Sem

/-- The plain form, read at an index. -/
theorem inMul_plain (h : FVec Ideal Cert.Reference5Ideal.S8192x4096 .bf16) (w : FVec Ideal Cert.Reference5Ideal.S6152x4096 .bf16) :
    Cert.Reference5Ideal.Read.val_main_v4 (F := Ideal) h w = Cert.Kernel5Ideal.Value.inMul h w := by
  funext j
  open Cert.Reference5Ideal.Read in
  pointwise [val_main_v0, val_main_v1, val_main_v2, val_main_v3, val_main_v4, Cert.Kernel5Ideal.Value.inMul]

theorem frame_reference5 : Cert.quiescent_Reference5Ideal (hReference5Ideal := Cert.Reference5Ideal.Gen.facts) := fun m g _ =>
  (θ_run Cert.Reference5Ideal.defs _ _).mono (fun r h => ⟨fun c => (h c).2, sem_eq_zero_of_no_sems (by decide) r.2⟩)
    (Cert.Reference5Ideal.Value.run (F := Ideal) m g)

/-- The two programs agree. -/
theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨fun c => Cert.Kernel5Ideal.Value.inMul (m ((c.tc : Thread _ _).loc Cert.Kernel5Ideal.main_arg0)) (m ((c.tc : Thread _ _).loc Cert.Kernel5Ideal.main_arg1)),
    (θ_run (Cert.Kernel5Ideal.defs (F := Ideal)) _ _).mono (fun r h c => ⟨(h c).1.trans (Cert.Kernel5Ideal.Value.final m c), (h c).2⟩)
      (Cert.Kernel5Ideal.Value.run_blocks (F := Ideal) m g), ?_⟩
  refine (θ_run (Cert.Reference5Ideal.defs (F := Ideal)) _ _).mono (fun r h c => ⟨(h c).1.trans ?_, (h c).2⟩)
    (Cert.Reference5Ideal.Value.run (F := Ideal) m' g')
  obtain ⟨e0, e1⟩ := hargs c
  refine (Cert.Reference5Ideal.Read.val_main_v4_eq _ _).trans ?_
  rw [e0, e1]
  exact inMul_plain _ _

end Cert.Proof

end
-- ==== Proof.Decode.lean ====
/-
  One mLSTM step of a decoding sequence: what the call leaves in the three state blocks, as functions of the blocks it reads.
-/
module

public import proofs.«01_k».proof.Proof.Gen.Kernel6Ideal.Frame
public import Idealize.ShloMosaic.Lib.Pipeline.ValueKit

@[expose] public section

set_option maxRecDepth 16384

noncomputable section

namespace Cert.Kernel6Ideal.Value

open Idealize.ShloMosaic Idealize.ShloMosaic.TcCoe Idealize.SL.Sem
open Idealize.ShloMosaic.Pipeline (Dat)
open Cert.Kernel6Ideal Cert.Kernel6Ideal.Gen

/-- The logarithm of the logistic function, from the side that does not overflow. -/
def logSig (x : EReal) : EReal := min x 0 - Ideal.log (1 + Ideal.exp (0 - FloatOps.absf (F := Ideal) (φ := .f32) x))

/-- The new running maximum, from the two gates and the old one. -/
def maxNew (i f m : EReal) : EReal := max (logSig f + m) i
/-- The weight of the new token. -/
def wNew (i f m : EReal) : EReal := Ideal.exp (i - maxNew i f m)
/-- The weight of the old state. -/
def wOld (i f m : EReal) : EReal := Ideal.exp (logSig f + m - maxNew i f m)

/-- The factor on the keys. -/
abbrev keyScale : EReal := FloatOps.ofBits (F := Ideal) .f32 0x3D800000#32

/-- A choice by two positions below 128 or 256: the first value where they are the same, the second elsewhere. -/
theorem pick (a b : ℕ) (ha : a < 4294967296) (hb : b < 4294967296) (u v : EReal) :
    Scalar.select (IntOp.cmpi CmpIPredicate.eq (BitVec.ofNat 32 a) (BitVec.ofNat 32 b)) u v = if a = b then u else v := by
  have e : (BitVec.ofNat 32 a = BitVec.ofNat 32 b) ↔ a = b :=
    ⟨fun h => by
      have h := congrArg BitVec.toNat h
      rw [BitVec.toNat_ofNat, BitVec.toNat_ofNat, Nat.mod_eq_of_lt (by omega), Nat.mod_eq_of_lt (by omega)] at h
      exact h, fun h => congrArg _ h⟩
  by_cases h : a = b
  · rw [if_pos h, h]
    simp [Scalar.select, IntOp.cmpi]
  · rw [if_neg h]
    have hf : (BitVec.ofNat 32 a == BitVec.ofNat 32 b) = false := beq_eq_false_iff_ne.mpr (mt e.mp h)
    simp [Scalar.select, IntOp.cmpi, hf]

/-- A row laid on the diagonal and summed along the rows is the row as a column. -/
theorem diag (f : Fin 256 → EReal) (a : Fin 256) : (∑ x : Fin 256, Scalar.select (k0_pay5 (ix2 a x)) (f x) (0 : EReal)) = f a := by
  have e : ∀ x : Fin 256, Scalar.select (k0_pay5 (ix2 a x)) (f x) (0 : EReal) = if a = x then f x else 0 := fun x => by
    refine Eq.trans ?_ ((pick a.val x.val (by omega) (by omega) (f x) 0).trans (if_congr Fin.ext_iff.symm rfl rfl))
    pointwise [k0_pay5]
  simp only [e, Finset.sum_ite_eq, Finset.mem_univ, if_true]

theorem pay24_at (k : FVec Ideal S1x256 .f32) (v : FVec Ideal S1x512 .f32) (c : FVec Ideal S256x512 .f32) (d g : FVec Ideal S1x1 .f32)
    (j : S1x1x256x512.Idx) : k0_pay24 k0_pay5 k v c d g j
      = g (ix2 0 0) * c (ix2 (j 2) (j 3)) + (k (ix2 0 (j 2)) * d (ix2 0 0)) * v (ix2 0 (j 3)) := by
  unfold k0_pay24
  pointwise [k0_pay23]
  exact congrArg (fun s => g (ix2 0 0) * c (ix2 (j 2) (j 3)) + s * v (ix2 0 (j 3))) (diag (fun x => k (ix2 0 x) * d (ix2 0 0)) (j 2))

variable (x0 : FVec Ideal S1x1x6144 .f32) (x1 : FVec Ideal S1x1x128 .f32) (x2 : FVec Ideal S1x128 .f32) (x3 : FVec Ideal S1x2048 .f32)
  (x4 : FVec Ideal S1x4x256x512 .f32) (x5 : FVec Ideal S1x4x256 .f32) (x6 : FVec Ideal S1x1x4 .f32)

/-- A head's two gates and its old maximum, from the blocks. -/
abbrev gateI (h : Fin 4) : EReal := x1 (ix3 0 0 ⟨h.val, by omega⟩) + x2 (ix2 0 ⟨h.val, by omega⟩)
abbrev gateF (h : Fin 4) : EReal := x1 (ix3 0 0 ⟨4 + h.val, by omega⟩) + x2 (ix2 0 ⟨4 + h.val, by omega⟩)
abbrev maxOld (h : Fin 4) : EReal := x6 (ix3 0 0 h)
/-- A head's weighted key. -/
abbrev keyW (h : Fin 4) (k : Fin 256) : EReal :=
  x0 (ix3 0 0 ⟨1024 + 256 * h.val + k.val, by omega⟩) * keyScale * wNew (gateI x1 x2 h) (gateF x1 x2 h) (maxOld x6 h)

/-- An index of a block is its coordinates. -/
theorem place (y : S1x4x256x512.Idx) (q : Fin 4) (a : Fin 256) (b : Fin 512) (h1 : (y 1).val = q.val) (h2 : (y 2).val = a.val)
    (h3 : (y 3).val = b.val) : y = ix4 0 q a b :=
  funext fun i => Fin.ext (match i with
    | ⟨0, _⟩ => Nat.lt_one_iff.mp (y 0).isLt | ⟨1, _⟩ => h1 | ⟨2, _⟩ => h2 | ⟨3, _⟩ => h3)
theorem place3 (y : S1x4x256.Idx) (q : Fin 4) (a : Fin 256) (h1 : (y 1).val = q.val) (h2 : (y 2).val = a.val) : y = ix3 0 q a :=
  funext fun i => Fin.ext (match i with | ⟨0, _⟩ => Nat.lt_one_iff.mp (y 0).isLt | ⟨1, _⟩ => h1 | ⟨2, _⟩ => h2)

/-- The new matrix state. -/
theorem state_C (y : S1x4x256x512.Idx)  : (out0_8 (F := Ideal) x0 x1 x2 x3 x4 x5 x6 : FVec Ideal S1x4x256x512 .f32) y
    = wOld (gateI x1 x2 (y 1)) (gateF x1 x2 (y 1)) (maxOld x6 (y 1)) * x4 y
      + keyW x0 x1 x2 x6 (y 1) (y 2) * x0 (ix3 0 0 ⟨2048 + 512 * (y 1).val + (y 3).val, by
          have h1 : (y 1).val < 4 := (y 1).isLt
          have h3 : (y 3).val < 512 := (y 3).isLt
          omega⟩) := by
  unfold out0_8
  canon_tiles x h
  on_goal 1 => rw [place y 3 (x 2) (x 3) (by show (y 1).val = 3; omega) h2 h3]
  on_goal 2 => rw [place y 2 (x 2) (x 3) (by show (y 1).val = 2; omega) h2 h3]
  on_goal 3 => rw [place y 1 (x 2) (x 3) (by show (y 1).val = 1; omega) h2 h3]
  on_goal 4 => rw [place y 0 (x 2) (x 3) (by show (y 1).val = 0; omega) h2 h3]
  all_goals
    refine Eq.trans (pay24_at _ _ _ _ _ x) ?_
    open_payloads
    pointwise [wOld, wNew, maxNew, logSig]
    rfl

/-- The new vector state. -/
theorem state_n (y : S1x4x256.Idx) : (out0_9 (F := Ideal) x0 x1 x2 x3 x4 x5 x6 : FVec Ideal S1x4x256 .f32) y
    = wOld (gateI x1 x2 (y 1)) (gateF x1 x2 (y 1)) (maxOld x6 (y 1)) * x5 y + keyW x0 x1 x2 x6 (y 1) (y 2) := by
  unfold out0_9
  canon_tiles x h
  on_goal 1 => rw [place3 y 3 (x 2) (by show (y 1).val = 3; omega) h2]
  on_goal 2 => rw [place3 y 2 (x 2) (by show (y 1).val = 2; omega) h2]
  on_goal 3 => rw [place3 y 1 (x 2) (by show (y 1).val = 1; omega) h2]
  on_goal 4 => rw [place3 y 0 (x 2) (by show (y 1).val = 0; omega) h2]
  all_goals
    open_payloads
    pointwise [wOld, wNew, maxNew, logSig]
    rfl

/-- The new maxima: a head's in its lane, nothing in the lanes past the heads. -/
theorem state_m (h : Fin 4) : (out0_10 (F := Ideal) x0 x1 x2 x3 x4 x5 x6 : FVec Ideal S1x1x128 .f32) (ix3 0 0 ⟨h.val, by omega⟩)
    = maxNew (gateI x1 x2 h) (gateF x1 x2 h) (maxOld x6 h) := by
  unfold_out out0_10
  frame_out
  pointwise [k0_pay1, k0_pay70, k0_pay46, k0_pay27, k0_pay89]
  have hh : h.val < 4 := h.isLt
  rw [pick h.val 3 (by omega) (by omega), pick h.val 2 (by omega) (by omega), pick h.val 1 (by omega) (by omega), pick h.val 0 (by omega) (by omega)]
  match h with
  | 0 => rw [if_neg (by decide), if_neg (by decide), if_neg (by decide), if_pos (by decide)]; open_payloads; pointwise [maxNew, logSig]; rfl
  | 1 => rw [if_neg (by decide), if_neg (by decide), if_pos (by decide)]; open_payloads; pointwise [maxNew, logSig]; rfl
  | 2 => rw [if_neg (by decide), if_pos (by decide)]; open_payloads; pointwise [maxNew, logSig]; rfl
  | 3 => rw [if_pos (by decide)]; open_payloads; pointwise [maxNew, logSig]; rfl

end Cert.Kernel6Ideal.Value

end
-- ==== Proof.DecodeOut.lean ====
/-
  One mLSTM step of a decoding sequence: what the call leaves for the mixer. The query reads the new state; the read is divided by its
  normaliser, normalised per head and gated.
-/
module

public import proofs.«01_k».proof.Proof.Decode
public import proofs.«01_k».proof.Proof.Spec

@[expose] public section

set_option maxRecDepth 16384

noncomputable section

namespace Cert.Kernel6Ideal.Value

open Idealize.ShloMosaic Idealize.ShloMosaic.TcCoe Idealize.SL.Sem
open Cert.Kernel6Ideal Cert.Kernel6Ideal.Gen Cert.Spec

/-- A row laid on the diagonal and summed along the rows, at a row. -/
theorem diag_lanes (f : Fin 256 → EReal) (a : Fin 256) :
    (∑ x : Fin 256, Scalar.select (IntOp.cmpi CmpIPredicate.eq (BitVec.ofNat 32 a.val) (BitVec.ofNat 32 x.val)) (f x) (0 : EReal)) = f a := by
  simp only [fun x : Fin 256 => (pick a.val x.val (by omega) (by omega) (f x) 0).trans (if_congr Fin.ext_iff.symm rfl rfl),
    Finset.sum_ite_eq, Finset.mem_univ, if_true]

/-- The read of a state: the query's product with the new token, and with the old state. -/
def readNum (s v qC g : EReal) : EReal := s * v + qC * g
/-- Its normaliser. -/
def readDen (s qn g m : EReal) : EReal := max (FloatOps.absf (F := Ideal) (φ := .f32) (s + qn * g)) (Ideal.exp (0 - m))
/-- The gate on the mixer's output. -/
def outGate (o y : EReal) : EReal := Ideal.div 1 (1 + Ideal.exp (0 - o)) * y

variable (x0 : FVec Ideal S1x1x6144 .f32) (x1 : FVec Ideal S1x1x128 .f32) (x2 : FVec Ideal S1x128 .f32) (x3 : FVec Ideal S1x2048 .f32)
  (x4 : FVec Ideal S1x4x256x512 .f32) (x5 : FVec Ideal S1x4x256 .f32) (x6 : FVec Ideal S1x1x4 .f32)

/-- A head's query. -/
abbrev query (h : Fin 4) (k : Fin 256) : EReal := x0 (ix3 0 0 ⟨256 * h.val + k.val, by omega⟩)
/-- The query's product with the new key, weighted. -/
abbrev score (h : Fin 4) : EReal :=
  (∑ k : Fin 256, query x0 h k * (x0 (ix3 0 0 ⟨1024 + 256 * h.val + k.val, by omega⟩) * keyScale)) * wNew (gateI x1 x2 h) (gateF x1 x2 h) (maxOld x6 h)
/-- The read of the new state. -/
abbrev readAt (h : Fin 4) (v : Fin 512) : EReal :=
  Ideal.div (readNum (score x0 x1 x2 x6 h) (x0 (ix3 0 0 ⟨2048 + 512 * h.val + v.val, by omega⟩))
      (∑ k : Fin 256, query x0 h k * x4 (ix4 0 h k v)) (wOld (gateI x1 x2 h) (gateF x1 x2 h) (maxOld x6 h)))
    (readDen (score x0 x1 x2 x6 h) (∑ k : Fin 256, query x0 h k * x5 (ix3 0 h k)) (wOld (gateI x1 x2 h) (gateF x1 x2 h) (maxOld x6 h))
      (maxNew (gateI x1 x2 h) (gateF x1 x2 h) (maxOld x6 h)))

set_option maxHeartbeats 4000000 in
/-- What the call leaves for the mixer. -/
theorem state_h (h : Fin 4) (v : Fin 512) : (out0_7 (F := Ideal) x0 x1 x2 x3 x4 x5 x6 : FVec Ideal S1x1x2048 .bf16) (ix3 0 0 ⟨512 * h.val + v.val, by omega⟩)
    = outGate (x0 (ix3 0 0 ⟨4096 + 512 * h.val + v.val, by omega⟩))
        (readAt x0 x1 x2 x4 x5 x6 h v * rootOf 1140850688#32 (∑ u : Fin 512, readAt x0 x1 x2 x4 x5 x6 h u * readAt x0 x1 x2 x4 x5 x6 h u)
          * x3 (ix2 0 ⟨512 * h.val + v.val, by omega⟩)) := by
  have hv : v.val < 512 := v.isLt
  have hh : h.val < 4 := h.isLt
  generalize hy : (ix3 0 0 ⟨512 * h.val + v.val, by omega⟩ : S1x1x2048.Idx) = y
  have hy2 : (y 2).val = 512 * h.val + v.val := by rw [← hy]; rfl
  unfold out0_7
  canon_tiles x q
  on_goal 1 => obtain rfl : h = 3 := Fin.ext (by show h.val = 3; omega)
  on_goal 2 => obtain rfl : h = 2 := Fin.ext (by show h.val = 2; omega)
  on_goal 3 => obtain rfl : h = 1 := Fin.ext (by show h.val = 1; omega)
  on_goal 4 => obtain rfl : h = 0 := Fin.ext (by show h.val = 0; omega)
  on_goal 1 => change (y 2).val = 512 * 3 + v.val at hy2
  on_goal 2 => change (y 2).val = 512 * 2 + v.val at hy2
  on_goal 3 => change (y 2).val = 512 * 1 + v.val at hy2
  on_goal 4 => change (y 2).val = 512 * 0 + v.val at hy2
  all_goals
    obtain rfl : v = x 2 := Fin.ext (by have := x2_lt; show v.val = (x 2).val; omega)
    open_payloads
    pointwise [readNum, readDen, outGate, wOld, wNew, maxNew, logSig]
    simp only [diag_lanes]
    rfl

end Cert.Kernel6Ideal.Value

end
-- ==== Proof.DecodeRun.lean ====
/-
  One mLSTM step of the decoding sequences: the mixer's output and the states the call leaves, as functions of the arguments.
-/
module

public import proofs.«01_k».proof.Proof.DecodeOut
public import Idealize.ShloMosaic.Lib.StableHlo.ReadAt

@[expose] public section

set_option maxRecDepth 16384

noncomputable section

namespace Cert.Kernel6Ideal.Value

open Idealize.ShloMosaic Idealize.ShloMosaic.TcCoe Idealize.SL.Sem
open Idealize.ShloMosaic.Pipeline (Dat)
open Cert.Kernel6Ideal Cert.Kernel6Ideal.Gen Cert.Spec

/-! ## The states, from the arguments -/

section Spec

variable (p : FVec Ideal S32x6152 .f32) (C : FVec Ideal S1x32x4x256x512 .f32) (n : FVec Ideal S1x32x4x256 .f32) (mx : FVec Ideal S1x32x4 .f32)
  (bi bf : FVec Ideal S1x4 .f32) (r : Fin 32) (h : Fin 4)

/-- A sequence's gates in a head. -/
abbrev gI : EReal := p (ix2 r ⟨6144 + h.val, by omega⟩) + bi (ix2 0 h)
abbrev gF : EReal := p (ix2 r ⟨6148 + h.val, by omega⟩) + bf (ix2 0 h)
/-- A sequence's new maximum in a head. -/
abbrev newM : EReal := maxNew (gI p bi r h) (gF p bf r h) (mx (ix3 0 r h))
/-- A sequence's weighted key in a head. -/
abbrev newK (k : Fin 256) : EReal :=
  p (ix2 r ⟨1024 + 256 * h.val + k.val, by omega⟩) * keyScale * wNew (gI p bi r h) (gF p bf r h) (mx (ix3 0 r h))
/-- A sequence's new vector state. -/
abbrev newN (k : Fin 256) : EReal :=
  wOld (gI p bi r h) (gF p bf r h) (mx (ix3 0 r h)) * n (ix4 0 r h k) + newK p mx bi bf r h k
/-- A sequence's new matrix state. -/
abbrev newC (k : Fin 256) (v : Fin 512) : EReal :=
  wOld (gI p bi r h) (gF p bf r h) (mx (ix3 0 r h)) * C (ix5 0 r h k v) + newK p mx bi bf r h k * p (ix2 r ⟨2048 + 512 * h.val + v.val, by omega⟩)

/-- A sequence's query in a head. -/
abbrev newQ (k : Fin 256) : EReal := p (ix2 r ⟨256 * h.val + k.val, by omega⟩)
/-- Its product with the new key, weighted. -/
abbrev newS : EReal :=
  (∑ k : Fin 256, newQ p r h k * (p (ix2 r ⟨1024 + 256 * h.val + k.val, by omega⟩) * keyScale)) * wNew (gI p bi r h) (gF p bf r h) (mx (ix3 0 r h))
/-- The read of a sequence's new state. -/
abbrev newR (v : Fin 512) : EReal :=
  Ideal.div (readNum (newS p mx bi bf r h) (p (ix2 r ⟨2048 + 512 * h.val + v.val, by omega⟩)) (∑ k : Fin 256, newQ p r h k * C (ix5 0 r h k v))
      (wOld (gI p bi r h) (gF p bf r h) (mx (ix3 0 r h))))
    (readDen (newS p mx bi bf r h) (∑ k : Fin 256, newQ p r h k * n (ix4 0 r h k)) (wOld (gI p bi r h) (gF p bf r h) (mx (ix3 0 r h)))
      (newM p mx bi bf r h))
/-- What a sequence leaves for the mixer. -/
abbrev newH (w : FVec Ideal S1x4x512 .f32) (v : Fin 512) : EReal :=
  outGate (p (ix2 r ⟨4096 + 512 * h.val + v.val, by omega⟩))
    (newR p C n mx bi bf r h v * rootOf 1140850688#32 (∑ u : Fin 512, newR p C n mx bi bf r h u * newR p C n mx bi bf r h u) * w (ix3 0 h v))

end Spec

variable (m : (ℓ : Loc nD τ sig) → Buf (Elt Ideal) ℓ) (c : Dev nD)

abbrev pr : FVec Ideal S32x6152 .f32 := m ((c.tc : Thread nD τ).loc main_arg0)
abbrev C0 : FVec Ideal S1x32x4x256x512 .f32 := m ((c.tc : Thread nD τ).loc main_arg1)
abbrev n0 : FVec Ideal S1x32x4x256 .f32 := m ((c.tc : Thread nD τ).loc main_arg2)
abbrev m0 : FVec Ideal S1x32x4 .f32 := m ((c.tc : Thread nD τ).loc main_arg3)
abbrev bI : FVec Ideal S1x4 .f32 := m ((c.tc : Thread nD τ).loc main_arg4)
abbrev bF : FVec Ideal S1x4 .f32 := m ((c.tc : Thread nD τ).loc main_arg5)
abbrev nW : FVec Ideal S1x4x512 .f32 := m ((c.tc : Thread nD τ).loc main_arg6)

/-! ## What the host operations before the call leave -/

theorem v12_at : (V m c main_v12 : FVec Ideal S32x1x6144 .f32) = fun j => pr m c (ix2 (j 0) ⟨(j 2).val, lt_trans (j 2).isLt (by decide : 6144 < 6152)⟩) := by
  funext j
  after_reads_at

theorem v13_at (r : Fin 32) (l : Fin 8) : (V m c main_v13 : FVec Ideal S32x1x128 .f32) (ix3 r 0 ⟨l.val, by omega⟩)
    = pr m c (ix2 r ⟨6144 + l.val, by omega⟩) := by
  after_reads_at

theorem v9_i (h : Fin 4) : (V m c main_v9 : FVec Ideal S1x128 .f32) (ix2 0 ⟨h.val, by omega⟩) = bI m c (ix2 0 h) := by
  after_reads_at
  refine (dif_pos (by omega)).trans ?_
  after_reads_at

theorem v9_f (h : Fin 4) : (V m c main_v9 : FVec Ideal S1x128 .f32) (ix2 0 ⟨4 + h.val, by omega⟩) = bF m c (ix2 0 h) := by
  after_reads_at
  refine (dif_pos (by omega)).trans ?_
  after_reads_at

theorem v10_at : (V m c main_v10 : FVec Ideal S32x4x256x512 .f32) = fun j => C0 m c (ix5 0 (j 0) (j 1) (j 2) (j 3)) := by
  funext j
  after_reads_at

theorem v11_at : (V m c main_v11 : FVec Ideal S32x4x256 .f32) = fun j => n0 m c (ix4 0 (j 0) (j 1) (j 2)) := by
  funext j
  after_reads_at

theorem v15_at : (V m c main_v15 : FVec Ideal S32x1x4 .f32) = fun j => m0 m c (ix3 0 (j 0) (j 2)) := by
  funext j
  after_reads_at

theorem v14_at (h : Fin 4) (v : Fin 512) : (V m c main_v14 : FVec Ideal S1x2048 .f32) (ix2 0 ⟨512 * h.val + v.val, by omega⟩) = nW m c (ix3 0 h v) := by
  after_reads_at

/-! ## The call's blocks at a sequence -/

/-- Where the windows of the call stand at each grid point. -/
theorem idx : ∀ t : Fin cfg0.N, win0_0.index t = ![t.val, 0, 0] ∧ win0_1.index t = ![t.val, 0, 0] ∧ win0_2.index t = ![0, 0]
    ∧ win0_3.index t = ![0, 0] ∧ win0_7.index t = ![t.val, 0, 0] ∧ win0_4.index t = ![t.val, 0, 0, 0] ∧ win0_5.index t = ![t.val, 0, 0] ∧ win0_6.index t = ![t.val, 0, 0]
    ∧ win0_8.index t = ![t.val, 0, 0, 0] ∧ win0_9.index t = ![t.val, 0, 0] ∧ win0_10.index t = ![t.val, 0, 0] :=
  (by decide +kernel : ∀ t : Fin grid0.N, _)

variable (t : Fin cfg0.N)

/-- The sequence of a grid point. -/
abbrev sq : Fin 32 := ⟨t.val, t.isLt⟩

theorem blk0 (q : Fin 6144) : (iblk m c 0 t : FVec Ideal S1x1x6144 .f32) (ix3 0 0 q) = pr m c (ix2 (sq t) ⟨q.val, by omega⟩) := by
  refine Eq.trans ?_ (congrFun (v12_at m c) (ix3 (sq t) 0 q))
  unfold iblk
  generalize V m c = W
  blk_point [idx t]

theorem blk1 (l : Fin 8) : (iblk m c 1 t : FVec Ideal S1x1x128 .f32) (ix3 0 0 ⟨l.val, by omega⟩) = pr m c (ix2 (sq t) ⟨6144 + l.val, by omega⟩) := by
  refine Eq.trans ?_ (v13_at m c (sq t) l)
  unfold iblk
  generalize V m c = W
  blk_point [idx t]

theorem gI_at (h : Fin 4) : gateI (iblk m c 1 t) (iblk m c 2 t) h = gI (pr m c) (bI m c) (sq t) h := by
  refine congrArg₂ (· + ·) (blk1 m c t ⟨h.val, by omega⟩) (Eq.trans ?_ (v9_i m c h))
  unfold iblk
  generalize V m c = W
  blk_point [idx t]

theorem gF_at (h : Fin 4) : gateF (iblk m c 1 t) (iblk m c 2 t) h = gF (pr m c) (bF m c) (sq t) h := by
  refine congrArg₂ (· + ·) ((blk1 m c t ⟨4 + h.val, by omega⟩).trans ?_) (Eq.trans ?_ (v9_f m c h))
  · exact congrArg (fun z => pr m c (ix2 (sq t) z)) (Fin.ext (show 6144 + (4 + h.val) = 6148 + h.val by omega))
  · unfold iblk
    generalize V m c = W
    blk_point [idx t]

theorem blk6 (h : Fin 4) : maxOld (iblk m c 6 t) h = m0 m c (ix3 0 (sq t) h) := by
  show (iblk m c 6 t : FVec Ideal S1x1x4 .f32) (ix3 0 0 h) = _
  refine Eq.trans ?_ (congrFun (v15_at m c) (ix3 (sq t) 0 h))
  unfold iblk
  generalize V m c = W
  blk_point [idx t]

theorem old_at (h : Fin 4) : wOld (gateI (iblk m c 1 t) (iblk m c 2 t) h) (gateF (iblk m c 1 t) (iblk m c 2 t) h) (maxOld (iblk m c 6 t) h)
    = wOld (gI (pr m c) (bI m c) (sq t) h) (gF (pr m c) (bF m c) (sq t) h) (m0 m c (ix3 0 (sq t) h)) := by
  rw [gI_at, gF_at, blk6]

theorem key_at (h : Fin 4) (k : Fin 256) : keyW (iblk m c 0 t) (iblk m c 1 t) (iblk m c 2 t) (iblk m c 6 t) h k
    = newK (pr m c) (m0 m c) (bI m c) (bF m c) (sq t) h k := by
  unfold keyW
  rw [gI_at, gF_at, blk6, blk0]

theorem blk4 (z : S1x4x256x512.Idx) : (iblk m c 4 t : FVec Ideal S1x4x256x512 .f32) z = C0 m c (ix5 0 (sq t) (z 1) (z 2) (z 3)) := by
  refine Eq.trans ?_ (congrFun (v10_at m c) (ix4 (sq t) (z 1) (z 2) (z 3)))
  unfold iblk
  generalize V m c = W
  blk_point [idx t]

theorem blk5 (z : S1x4x256.Idx) : (iblk m c 5 t : FVec Ideal S1x4x256 .f32) z = n0 m c (ix4 0 (sq t) (z 1) (z 2)) := by
  refine Eq.trans ?_ (congrFun (v11_at m c) (ix3 (sq t) (z 1) (z 2)))
  unfold iblk
  generalize V m c = W
  blk_point [idx t]

theorem blk3 (h : Fin 4) (v : Fin 512) : (iblk m c 3 t : FVec Ideal S1x2048 .f32) (ix2 0 ⟨512 * h.val + v.val, by omega⟩) = nW m c (ix3 0 h v) := by
  refine Eq.trans ?_ (v14_at m c h v)
  unfold iblk
  generalize V m c = W
  blk_point [idx t]

theorem score_at (h : Fin 4) : score (iblk m c 0 t) (iblk m c 1 t) (iblk m c 2 t) (iblk m c 6 t) h
    = newS (pr m c) (m0 m c) (bI m c) (bF m c) (sq t) h := by
  unfold score
  rw [gI_at, gF_at, blk6]
  exact congrArg (· * _) (Finset.sum_congr rfl fun k _ => congrArg₂ (· * ·) (blk0 m c t _) (congrArg (· * keyScale) (blk0 m c t _)))

theorem read_at (h : Fin 4) (v : Fin 512) : readAt (iblk m c 0 t) (iblk m c 1 t) (iblk m c 2 t) (iblk m c 4 t) (iblk m c 5 t) (iblk m c 6 t) h v
    = newR (pr m c) (C0 m c) (n0 m c) (m0 m c) (bI m c) (bF m c) (sq t) h v := by
  unfold readAt
  rw [score_at, gI_at, gF_at, blk6, blk0,
    show (∑ k : Fin 256, query (iblk m c 0 t) h k * (iblk m c 4 t : FVec Ideal S1x4x256x512 .f32) (ix4 0 h k v))
      = ∑ k : Fin 256, newQ (pr m c) (sq t) h k * C0 m c (ix5 0 (sq t) h k v) from
      Finset.sum_congr rfl fun k _ => congrArg₂ (· * ·) (blk0 m c t _) (blk4 m c t _),
    show (∑ k : Fin 256, query (iblk m c 0 t) h k * (iblk m c 5 t : FVec Ideal S1x4x256 .f32) (ix3 0 h k))
      = ∑ k : Fin 256, newQ (pr m c) (sq t) h k * n0 m c (ix4 0 (sq t) h k) from
      Finset.sum_congr rfl fun k _ => congrArg₂ (· * ·) (blk0 m c t _) (blk5 m c t _)]

/-! ## What the call leaves -/

/-- What the mixer reads, whole. -/
def allH : FVec Ideal S32x1x2048 .bf16 := fun j =>
  newH (pr m c) (C0 m c) (n0 m c) (m0 m c) (bI m c) (bF m c) (j 0) ⟨(j 2).val / 512, Nat.div_lt_of_lt_mul (j 2).isLt⟩ (nW m c)
    ⟨(j 2).val % 512, Nat.mod_lt _ (by decide)⟩

theorem allH_at (r : Fin 32) (h : Fin 4) (v : Fin 512) : allH m c (ix3 r 0 ⟨512 * h.val + v.val, by omega⟩)
    = newH (pr m c) (C0 m c) (n0 m c) (m0 m c) (bI m c) (bF m c) r h (nW m c) v := by
  unfold allH
  have e1 : (⟨(512 * h.val + v.val) / 512, by omega⟩ : Fin 4) = h := Fin.ext (by show (512 * h.val + v.val) / 512 = h.val; omega)
  have e2 : (⟨(512 * h.val + v.val) % 512, by omega⟩ : Fin 512) = v := Fin.ext (by show (512 * h.val + v.val) % 512 = v.val; omega)
  exact congrArg₂ (fun a b => newH (pr m c) (C0 m c) (n0 m c) (m0 m c) (bI m c) (bF m c) r a (nW m c) b) e1 e2

/-- A place of the mixer's row is a head and a column of it. -/
theorem place_h (y : S1x1x2048.Idx) : ∃ (h : Fin 4) (v : Fin 512), y = ix3 0 0 ⟨512 * h.val + v.val, by omega⟩ := by
  have h2 : (y 2).val < 2048 := (y 2).isLt
  exact ⟨⟨(y 2).val / 512, by omega⟩, ⟨(y 2).val % 512, by omega⟩, funext fun i => Fin.ext (match i with
    | ⟨0, _⟩ => Nat.lt_one_iff.mp (y 0).isLt | ⟨1, _⟩ => Nat.lt_one_iff.mp (y 1).isLt
    | ⟨2, _⟩ => show (y 2).val = 512 * ((y 2).val / 512) + (y 2).val % 512 by omega)⟩

theorem blk_h (y : S1x1x2048.Idx) : (out0_7 (F := Ideal) (iblk m c 0 t) (iblk m c 1 t) (iblk m c 2 t) (iblk m c 3 t) (iblk m c 4 t)
    (iblk m c 5 t) (iblk m c 6 t) : FVec Ideal S1x1x2048 .bf16) y = allH m c (ix3 (sq t) (y 1) (y 2)) := by
  obtain ⟨h, v, rfl⟩ := place_h y
  refine (state_h _ _ _ _ _ _ _ h v).trans (Eq.trans ?_ (allH_at m c (sq t) h v).symm)
  refine congrArg₂ outGate (blk0 m c t _) (congrArg₂ (· * ·) (congrArg₂ (· * ·) (read_at m c t h v) (congrArg (rootOf _) ?_)) (blk3 m c t h v))
  exact Finset.sum_congr rfl fun u _ => congrArg₂ (· * ·) (read_at m c t h u) (read_at m c t h u)

theorem final_h : (dats m 0 c).arrAt 7 cfg0.N = allH m c := by
  refine (dats m 0 c).arrAt_eq_of_covers 7 _ (by decide +kernel) fun t _ y => ?_
  blk_simp
  rw [after0_7]
  refine (blk_h m c t y).trans ?_
  generalize allH m c = G
  blk_point [idx t]

/-- The new states, whole. -/
def allC : FVec Ideal S32x4x256x512 .f32 := fun j => newC (pr m c) (C0 m c) (m0 m c) (bI m c) (bF m c) (j 0) (j 1) (j 2) (j 3)
def allN : FVec Ideal S32x4x256 .f32 := fun j => newN (pr m c) (n0 m c) (m0 m c) (bI m c) (bF m c) (j 0) (j 1) (j 2)
def allM : FVec Ideal S32x4 .f32 := fun j => newM (pr m c) (m0 m c) (bI m c) (bF m c) (j 0) (j 1)

theorem blk_C (y : S1x4x256x512.Idx) : (out0_8 (F := Ideal) (iblk m c 0 t) (iblk m c 1 t) (iblk m c 2 t) (iblk m c 3 t) (iblk m c 4 t)
    (iblk m c 5 t) (iblk m c 6 t) : FVec Ideal S1x4x256x512 .f32) y = allC m c (ix4 (sq t) (y 1) (y 2) (y 3)) := by
  refine (state_C _ _ _ _ _ _ _ y).trans ?_
  exact congrArg₂ (· + ·) (congrArg₂ (· * ·) (old_at m c t _) (blk4 m c t y)) (congrArg₂ (· * ·) (key_at m c t _ _) (blk0 m c t _))

theorem blk_n (y : S1x4x256.Idx) : (out0_9 (F := Ideal) (iblk m c 0 t) (iblk m c 1 t) (iblk m c 2 t) (iblk m c 3 t) (iblk m c 4 t)
    (iblk m c 5 t) (iblk m c 6 t) : FVec Ideal S1x4x256 .f32) y = allN m c (ix3 (sq t) (y 1) (y 2)) := by
  refine (state_n _ _ _ _ _ _ _ y).trans ?_
  exact congrArg₂ (· + ·) (congrArg₂ (· * ·) (old_at m c t _) (blk5 m c t y)) (key_at m c t _ _)

theorem final_C : (dats m 0 c).arrAt 8 cfg0.N = allC m c := by
  refine (dats m 0 c).arrAt_eq_of_covers 8 _ (by decide +kernel) fun t _ y => ?_
  blk_simp
  rw [after0_8]
  refine (blk_C m c t y).trans ?_
  generalize allC m c = G
  blk_point [idx t]

theorem final_n : (dats m 0 c).arrAt 9 cfg0.N = allN m c := by
  refine (dats m 0 c).arrAt_eq_of_covers 9 _ (by decide +kernel) fun t _ y => ?_
  blk_simp
  rw [after0_9]
  refine (blk_n m c t y).trans ?_
  generalize allN m c = G
  blk_point [idx t]

/-- The maxima with their lanes past the heads, which the call leaves at whatever its lanes compute. -/
def lanes : FVec Ideal S32x1x128 .f32 := fun j => (out0_10 (F := Ideal) (iblk m c 0 (j 0)) (iblk m c 1 (j 0)) (iblk m c 2 (j 0)) (iblk m c 3 (j 0)) (iblk m c 4 (j 0))
    (iblk m c 5 (j 0)) (iblk m c 6 (j 0)) : FVec Ideal S1x1x128 .f32) (ix3 0 0 (j 2))

theorem blk_m (y : S1x1x128.Idx) : (out0_10 (F := Ideal) (iblk m c 0 t) (iblk m c 1 t) (iblk m c 2 t) (iblk m c 3 t) (iblk m c 4 t)
    (iblk m c 5 t) (iblk m c 6 t) : FVec Ideal S1x1x128 .f32) y = lanes m c (ix3 (sq t) (y 1) (y 2)) := by
  have e : y = ix3 0 0 (y 2) := funext fun i => Fin.ext (match i with
    | ⟨0, _⟩ => Nat.lt_one_iff.mp (y 0).isLt | ⟨1, _⟩ => Nat.lt_one_iff.mp (y 1).isLt | ⟨2, _⟩ => rfl)
  exact congrArg (out0_10 (F := Ideal) (iblk m c 0 t) (iblk m c 1 t) (iblk m c 2 t) (iblk m c 3 t) (iblk m c 4 t) (iblk m c 5 t) (iblk m c 6 t) : FVec Ideal S1x1x128 .f32) e

theorem final_m : (dats m 0 c).arrAt 10 cfg0.N = lanes m c := by
  refine (dats m 0 c).arrAt_eq_of_covers 10 _ (by decide +kernel) fun t _ y => ?_
  blk_simp
  rw [after0_10]
  refine (blk_m m c t y).trans ?_
  generalize lanes m c = G
  blk_point [idx t]

theorem lanes_at (r : Fin 32) (h : Fin 4) : lanes m c (ix3 r 0 ⟨h.val, by omega⟩) = allM m c (ix2 r h) := by
  refine (state_m _ _ _ _ _ _ _ h).trans ?_
  exact (congrArg₂ (fun a b => maxNew a b _) (gI_at m c r h) (gF_at m c r h)).trans (congrArg (maxNew _ _) (blk6 m c r h))

/-- After the call: the lanes of the heads, as rows. -/
theorem v18_at : (Pipeline.afterTail₀ cfgs (dats m) 0 (V0 m) [hostOps1] c main_v18 : FVec Ideal S32x4 .f32) = allM m c := by
  funext j
  unfold Pipeline.afterTail₀
  have e := (Pipeline.withArrays_arr spec0 (by decide) c (V0 m c) (fun w => (dats m 0 c).arrAt w cfg0.N) 10).trans (final_m m c)
  generalize Pipeline.withArrays spec0 c (V0 m c) (fun w => (dats m 0 c).arrAt w cfg0.N) = W at e ⊢
  after_reads_at
  exact (congrFun e _).trans (lanes_at m c (j 0) (j 1))

/-- The call's run: the mixer's output and the new states, the arguments unchanged. -/
theorem run (g : Dev nD → PrngReg) : θ_run (defs (F := Ideal)) (onTc (τ := τ) (main (F := Ideal))) ⟨m, fun _ => 0, g⟩ (fun r => ∀ c : Dev nD,
      r.2.mem ((c.tc : Thread nD τ).loc main_v16_0) = allH m c
      ∧ r.2.mem ((c.tc : Thread nD τ).loc main_v16_1) = allC m c
      ∧ r.2.mem ((c.tc : Thread nD τ).loc main_v16_2) = allN m c
      ∧ r.2.mem ((c.tc : Thread nD τ).loc main_v18) = allM m c) :=
  (θ_run defs _ _).mono (fun r h c => ⟨((h c).1 7).trans (final_h m c), ((h c).1 8).trans (final_C m c), ((h c).1 9).trans (final_n m c),
    ((h c).2 main_v18 (Pipeline.mem_restRefs_of main_v18 (by decide) (by decide))).trans (v18_at m c)⟩) (run_main m g)

end Cert.Kernel6Ideal.Value

end
-- ==== Proof.DecodeAlgebraic.lean ====
/-
  The plain form of one mLSTM step of the decoding sequences, and that the call's program agrees with it.
-/
module

public import proofs.«01_k».proof.Proof.DecodeRun
public import proofs.«01_k».proof.Proof.Gen.Reference6Ideal.Read
public import proofs.«01_k».proof.Defs

@[expose] public section

set_option maxRecDepth 16384

noncomputable section

namespace Cert.Reference6Ideal.Read

open Idealize.ShloMosaic Idealize.ShloMosaic.TcCoe Idealize.SL.Sem
open Cert.Reference6Ideal Cert.Kernel6Ideal.Value Cert.Spec

variable (p : FVec Ideal S32x6152 .f32) (C : FVec Ideal S1x32x4x256x512 .f32) (n : FVec Ideal S1x32x4x256 .f32) (mx : FVec Ideal S1x32x4 .f32)
  (bi bf : FVec Ideal S1x4 .f32) (r : Fin 32) (h : Fin 4)

/-- The plain form's logarithm of the logistic function is the kernel's: the term with the logarithm is finite. -/
theorem logSig_eq (x : EReal) : -(max (-x) 0 + Ideal.log (1 + Ideal.exp (-FloatOps.absf (F := Ideal) (φ := .f32) (-x)))) = logSig x := by
  have ea : FloatOps.absf (F := Ideal) (φ := .f32) (-x) = FloatOps.absf (F := Ideal) (φ := .f32) x := by
    show max (-x) (- -x) = max x (-x)
    rw [neg_neg, max_comm]
  have hm : -(max (-x) 0) = min x 0 := by
    rcases le_total x 0 with h | h
    · rw [min_eq_left h, max_eq_left (by simpa using EReal.neg_le_neg_iff.mpr h), neg_neg]
    · rw [min_eq_right h, max_eq_right (by simpa using EReal.neg_le_neg_iff.mpr h), neg_zero]
  have one : Ideal.log (1 + 0) = ((Real.log 1 : ℝ) : EReal) := by
    rw [add_zero]
    exact if_neg (by norm_num)
  have hL : ∃ l : ℝ, Ideal.log (1 + Ideal.exp (-FloatOps.absf (F := Ideal) (φ := .f32) x)) = (l : EReal) := by
    show ∃ l : ℝ, Ideal.log (1 + Ideal.exp (-max x (-x))) = (l : EReal)
    induction x with
    | bot => exact ⟨Real.log 1, by rw [EReal.neg_bot, max_eq_right bot_le, EReal.neg_top]; exact one⟩
    | top => exact ⟨Real.log 1, by rw [max_eq_left le_top, EReal.neg_top]; exact one⟩
    | coe a =>
      refine ⟨Real.log (1 + Real.exp (-max a (-a))), ?_⟩
      rw [← EReal.coe_neg, show max (a : EReal) ((-a : ℝ) : EReal) = ((max a (-a) : ℝ) : EReal) from (EReal.coe_strictMono.monotone.map_max).symm, ← EReal.coe_neg]
      exact if_neg (not_le.mpr (by positivity))
  obtain ⟨l, hl⟩ := hL
  unfold logSig
  rw [ea, zero_sub, hl, EReal.neg_add (Or.inr (EReal.coe_ne_top l)) (Or.inr (EReal.coe_ne_bot l)), hm]

theorem gateF_plain : val_main_v15 (F := Ideal) p bf (ix2 r h) = gF p bf r h := by
  pointwise [val_main_v11, val_main_v12, val_main_v13, val_main_v14, val_main_v15]

theorem gateI_plain : val_main_v10 (F := Ideal) p bi (ix2 r h) = gI p bi r h := by
  pointwise [val_main_v6, val_main_v7, val_main_v8, val_main_v9, val_main_v10]

theorem sig_plain : val_main_v16 (F := Ideal) p bf (ix2 r h) = logSig (gF p bf r h) := by
  rw [← gateF_plain]
  unfold val_main_v16 val_main_call0_v1 val_main_call0_call0_v11 val_main_call0_call0_v10 val_main_call0_call0_v9 val_main_call0_call0_v8 val_main_call0_call0_v7 val_main_call0_call0_v6 val_main_call0_call0_v4 val_main_call0_call0_v3 val_main_call0_call0_v1 val_main_call0_v0
  generalize val_main_v15 (F := Ideal) p bf = y
  pointwise [val_main_call0_call0_v5, val_main_call0_call0_v2, val_main_call0_call0_v0, val_main_call0_call0_cst]
  rw [if_neg (fun e => e rfl)]
  exact logSig_eq _

theorem max_plain : val_main_v21 (F := Ideal) p mx bi bf (ix2 r h) = newM p mx bi bf r h := by
  unfold newM maxNew
  rw [← sig_plain, ← gateI_plain]
  unfold val_main_v21 val_main_v20
  generalize val_main_v16 (F := Ideal) p bf = y
  generalize val_main_v10 (F := Ideal) p bi = z
  pointwise [val_main_v19]

theorem new_plain : val_main_v23 (F := Ideal) p mx bi bf (ix2 r h) = wNew (gI p bi r h) (gF p bf r h) (mx (ix3 0 r h)) := by
  unfold wNew
  rw [show maxNew _ _ _ = _ from (max_plain p mx bi bf r h).symm, ← gateI_plain]
  unfold val_main_v23 val_main_v22
  generalize val_main_v21 (F := Ideal) p mx bi bf = y
  generalize val_main_v10 (F := Ideal) p bi = z
  pointwise []

theorem old_plain : val_main_v26 (F := Ideal) p mx bi bf (ix2 r h) = wOld (gI p bi r h) (gF p bf r h) (mx (ix3 0 r h)) := by
  unfold wOld
  rw [show maxNew _ _ _ = _ from (max_plain p mx bi bf r h).symm, ← sig_plain]
  unfold val_main_v26 val_main_v25 val_main_v24
  generalize val_main_v21 (F := Ideal) p mx bi bf = y
  generalize val_main_v16 (F := Ideal) p bf = z
  pointwise [val_main_v19]

theorem key_plain (k : Fin 256) : val_main_v29 (F := Ideal) p mx bi bf (ix3 r h k) = newK p mx bi bf r h k := by
  unfold newK
  rw [← new_plain]
  unfold val_main_v29 val_main_v28 val_main_v27
  generalize val_main_v23 (F := Ideal) p mx bi bf = y
  pointwise [val_main_v3, val_main_v2, val_main_v1, val_main_v0, val_main_cst]
  exact congrArg (fun q => p (ix2 r q) * _ * _) (Fin.ext (show 1024 + (h.val * 256 + k.val) = 1024 + 256 * h.val + k.val by omega))

theorem n_plain (k : Fin 256) : val_main_v42 (F := Ideal) p n mx bi bf (ix3 r h k) = newN p n mx bi bf r h k := by
  unfold newN
  rw [← old_plain, ← key_plain]
  unfold val_main_v42 val_main_v41 val_main_v40 val_main_v39
  generalize val_main_v29 (F := Ideal) p mx bi bf = y
  generalize val_main_v26 (F := Ideal) p mx bi bf = z
  pointwise [val_main_v18]

theorem C_plain (k : Fin 256) (v : Fin 512) : val_main_v38 (F := Ideal) p C mx bi bf (ix4 r h k v) = newC p C mx bi bf r h k v := by
  unfold newC
  rw [← old_plain, ← key_plain]
  unfold val_main_v38 val_main_v37 val_main_v35 val_main_v33 val_main_v32 val_main_v31 val_main_v30
  generalize val_main_v29 (F := Ideal) p mx bi bf = y
  generalize val_main_v26 (F := Ideal) p mx bi bf = z
  pointwise [val_main_v36, val_main_v34, val_main_v5, val_main_v4, val_main_v17]
  exact congrArg (fun q => _ + _ * p (ix2 r q)) (Fin.ext (show 2048 + (h.val * 512 + v.val) = 2048 + 512 * h.val + v.val by omega))

theorem q_plain (k : Fin 256) : val_main_v44 (F := Ideal) p (ix3 r h k) = newQ p r h k := by
  pointwise [val_main_v44, val_main_v43]
  exact congrArg (fun q => p (ix2 r q)) (Fin.ext (show h.val * 256 + k.val = 256 * h.val + k.val by omega))

theorem k_plain (k : Fin 256) : val_main_v3 (F := Ideal) p (ix3 r h k) = p (ix2 r ⟨1024 + 256 * h.val + k.val, by omega⟩) * keyScale := by
  pointwise [val_main_v3, val_main_v2, val_main_v1, val_main_v0, val_main_cst]
  exact congrArg (fun q => p (ix2 r q) * _) (Fin.ext (show 1024 + (h.val * 256 + k.val) = 1024 + 256 * h.val + k.val by omega))

theorem v_plain (v : Fin 512) : val_main_v5 (F := Ideal) p (ix3 r h v) = p (ix2 r ⟨2048 + 512 * h.val + v.val, by omega⟩) := by
  pointwise [val_main_v5, val_main_v4]
  exact congrArg (fun q => p (ix2 r q)) (Fin.ext (show 2048 + (h.val * 512 + v.val) = 2048 + 512 * h.val + v.val by omega))

theorem s_plain : val_main_v47 (F := Ideal) p mx bi bf (ix2 r h) = newS p mx bi bf r h := by
  unfold newS
  have hq := q_plain p r h
  simp only [← new_plain, ← k_plain]
  unfold val_main_v47 val_main_v46 val_main_v45
  generalize val_main_v23 (F := Ideal) p mx bi bf = y
  generalize val_main_v44 (F := Ideal) p = a at hq ⊢
  generalize val_main_v3 (F := Ideal) p = b
  pointwise [val_main_cst_0]
  simp only [hq]

theorem num_plain (v : Fin 512) : val_main_v55 (F := Ideal) p C mx bi bf (ix3 r h v)
    = readNum (newS p mx bi bf r h) (p (ix2 r ⟨2048 + 512 * h.val + v.val, by omega⟩)) (∑ k : Fin 256, newQ p r h k * C (ix5 0 r h k v))
      (wOld (gI p bi r h) (gF p bf r h) (mx (ix3 0 r h))) := by
  unfold readNum
  have hq := q_plain p r h
  simp only [← old_plain, ← s_plain, ← v_plain]
  unfold val_main_v55 val_main_v54 val_main_v53 val_main_v52 val_main_v51 val_main_v50 val_main_v49 val_main_v48
  generalize val_main_v26 (F := Ideal) p mx bi bf = y
  generalize val_main_v44 (F := Ideal) p = a at hq ⊢
  generalize val_main_v47 (F := Ideal) p mx bi bf = b
  generalize val_main_v5 (F := Ideal) p = d
  pointwise [val_main_v17]
  simp only [hq]

theorem den_plain : val_main_v63 (F := Ideal) p n mx bi bf (ix2 r h)
    = readDen (newS p mx bi bf r h) (∑ k : Fin 256, newQ p r h k * n (ix4 0 r h k)) (wOld (gI p bi r h) (gF p bf r h) (mx (ix3 0 r h)))
      (newM p mx bi bf r h) := by
  unfold readDen
  have hq := q_plain p r h
  simp only [← old_plain, ← s_plain, ← max_plain, zero_sub]
  unfold val_main_v63 val_main_v62 val_main_v61 val_main_v60 val_main_v59 val_main_v58 val_main_v57 val_main_v56
  generalize val_main_v26 (F := Ideal) p mx bi bf = y
  generalize val_main_v44 (F := Ideal) p = a at hq ⊢
  generalize val_main_v47 (F := Ideal) p mx bi bf = b
  generalize val_main_v21 (F := Ideal) p mx bi bf = d
  pointwise [val_main_v18, val_main_cst_1]
  simp only [hq]

theorem r_plain (v : Fin 512) : val_main_v66 (F := Ideal) p C n mx bi bf (ix3 r h v) = newR p C n mx bi bf r h v := by
  unfold newR
  rw [← num_plain, ← den_plain]
  unfold val_main_v66 val_main_v65 val_main_v64
  generalize val_main_v55 (F := Ideal) p C mx bi bf = y
  generalize val_main_v63 (F := Ideal) p n mx bi bf = a
  pointwise []

theorem h_plain (w : FVec Ideal S1x4x512 .f32) (v : Fin 512) : val_main_v91 (F := Ideal) p C n mx bi bf w (ix3 r 0 ⟨512 * h.val + v.val, by omega⟩)
    = newH p C n mx bi bf r h w v := by
  unfold newH outGate
  simp only [← r_plain, zero_sub]
  unfold val_main_v91 val_main_v90 val_main_v81 val_main_v80 val_main_v77 val_main_v76 val_main_v75 val_main_v74 val_main_v72 val_main_v70 val_main_v69 val_main_v68
  generalize val_main_v66 (F := Ideal) p C n mx bi bf = y
  pointwise [val_main_v89, val_main_v88, val_main_v87, val_main_v86, val_main_v85, val_main_v84, val_main_v83, val_main_v82, val_main_v79, val_main_v78,
    val_main_v73, val_main_v71, val_main_v67, val_main_cst_2, val_main_cst_3, val_main_cst_4, val_main_cst_5, val_main_cst_6]
  exact congrArg (fun q => Ideal.div 1 (1 + Ideal.exp (-p (ix2 r q))) * _) (Fin.ext (show 4096 + (512 * h.val + v.val) = 4096 + 512 * h.val + v.val by omega))

/-- A place of the mixer's rows is a sequence, a head and a column of it. -/
theorem place_row (j : S32x1x2048.Idx) : ∃ (r : Fin 32) (h : Fin 4) (v : Fin 512), j = ix3 r 0 ⟨512 * h.val + v.val, by omega⟩ := by
  have h2 : (j 2).val < 2048 := (j 2).isLt
  exact ⟨j 0, ⟨(j 2).val / 512, by omega⟩, ⟨(j 2).val % 512, by omega⟩, funext fun i => Fin.ext (match i with
    | ⟨0, _⟩ => rfl | ⟨1, _⟩ => Nat.lt_one_iff.mp (j 1).isLt
    | ⟨2, _⟩ => show (j 2).val = 512 * ((j 2).val / 512) + (j 2).val % 512 by omega)⟩

end Cert.Reference6Ideal.Read

namespace Cert.Proof

open Idealize.ShloMosaic Idealize.ShloMosaic.TcCoe Idealize.SL.Sem

theorem frame_reference6 : Cert.quiescent_Reference6Ideal (hReference6Ideal := Cert.Reference6Ideal.Gen.facts) := fun m g _ =>
  (θ_run Cert.Reference6Ideal.defs _ _).mono (fun r h => ⟨fun c => (h c).2.2.2.2, sem_eq_zero_of_no_sems (by decide) r.2⟩)
    (Cert.Reference6Ideal.Value.run (F := Ideal) m g)

/-- The two programs agree. -/
theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.Kernel6Ideal.Value.allH m c, fun c => Cert.Kernel6Ideal.Value.allC m c, fun c => Cert.Kernel6Ideal.Value.allN m c,
    fun c => Cert.Kernel6Ideal.Value.allM m c,
    (θ_run (Cert.Kernel6Ideal.defs (F := Ideal)) _ _).mono (fun r h c => ⟨(h.1 c).1, (h.1 c).2.1, (h.1 c).2.2.1, (h.1 c).2.2.2, h.2 c⟩)
      (θ_run_and (Cert.Kernel6Ideal.Value.run m g) (Cert.Kernel6Ideal.Gen.unchanged (F := Ideal) m g)), ?_⟩
  refine (θ_run (Cert.Reference6Ideal.defs (F := Ideal)) _ _).mono (fun r h c => ?_) (Cert.Reference6Ideal.Value.run (F := Ideal) m' g')
  obtain ⟨e0, e1, e2, e3, e4, e5, e6⟩ := hargs c
  refine ⟨((h c).1.trans (Cert.Reference6Ideal.Read.val_main_v91_eq m' c)).trans ?_,
    ((h c).2.1.trans (Cert.Reference6Ideal.Read.val_main_v38_eq m' c)).trans ?_,
    ((h c).2.2.1.trans (Cert.Reference6Ideal.Read.val_main_v42_eq m' c)).trans ?_,
    ((h c).2.2.2.1.trans (Cert.Reference6Ideal.Read.val_main_v21_eq _ _ _ _)).trans ?_, (h c).2.2.2.2⟩
  · rw [e0, e1, e2, e3, e4, e5, e6]
    funext j
    obtain ⟨r, a, v, rfl⟩ := Cert.Reference6Ideal.Read.place_row j
    exact (Cert.Reference6Ideal.Read.h_plain _ _ _ _ _ _ r a _ v).trans (Cert.Kernel6Ideal.Value.allH_at m c r a v).symm
  · rw [e0, e1, e3, e4, e5]
    funext j
    exact (congrArg _ (ix4_eta j).symm).trans (Cert.Reference6Ideal.Read.C_plain _ _ _ _ _ (j 0) (j 1) (j 2) (j 3))
  · rw [e0, e2, e3, e4, e5]
    funext j
    exact (congrArg _ (ix3_eta j).symm).trans (Cert.Reference6Ideal.Read.n_plain _ _ _ _ _ (j 0) (j 1) (j 2))
  · rw [e0, e3, e4, e5]
    funext j
    exact (congrArg _ (ix2_eta j).symm).trans (Cert.Reference6Ideal.Read.max_plain _ _ _ _ (j 0) (j 1))

end Cert.Proof

end
-- ==== Proof.Queries.lean ====
/-
  The prompt's queries: the product with the first 2048 rows of the narrowed weight, each head's row divided by its root mean
  square, scaled by the norm's weight and by the scores' scale.
-/
module

public import proofs.«01_k».proof.Proof.Gen.Kernel7Ideal.Value
public import proofs.«01_k».proof.Proof.Gen.Reference7Ideal.Read
public import proofs.«01_k».proof.Proof.Spec
public import proofs.«01_k».proof.Defs
public import Idealize.ShloMosaic.Lib.Pipeline.ValueKit
public import Idealize.ShloMosaic.Lib.StableHlo.ReadAt

@[expose] public section

set_option maxRecDepth 16384

noncomputable section

namespace Cert.Kernel7Ideal.Value

open Idealize.ShloMosaic Idealize.ShloMosaic.TcCoe Idealize.SL.Sem
open Idealize.ShloMosaic.Pipeline (Dat)
open Cert.Kernel7Ideal Cert.Kernel7Ideal.Gen Cert.Spec

variable (m : (ℓ : Loc nD τ sig) → Buf (Elt Ideal) ℓ) (c : Dev nD)

/-- One column of the product, by its row of the weight. -/
abbrev qCol (h : FVec Ideal S8192x4096 .bf16) (w : FVec Ideal S6144x4096 .bf16) (r : Fin 8192) (q : ℕ) (hq : q < 6144) : EReal :=
  ∑ k : Fin 4096, h (ix2 r k) * w (ix2 ⟨q, hq⟩ k)

theorem tile_lt (a : Fin 2048) (z : Fin 128) : a.val / 128 * 128 + z.val < 6144 := by omega

/-- The scores' scale. -/
abbrev scale : EReal := (((Real.sqrt 128)⁻¹ * (Real.log 2)⁻¹ : ℝ) : EReal)

/-- The queries: each tile of 128 columns divided by its root mean square and scaled. -/
abbrev queries (h : FVec Ideal S8192x4096 .bf16) (w : FVec Ideal S6144x4096 .bf16) (g : FVec Ideal S1x128 .f32) :
    FVec Ideal S8192x2048 .bf16 :=
  fun j => qCol h w (j 0) (j 1).val (lt_trans (j 1).isLt (by decide : 2048 < 6144))
    * rootOf 1124073472#32 (∑ z : Fin 128, qCol h w (j 0) ((j 1).val / 128 * 128 + z.val) (tile_lt (j 1) z)
        * qCol h w (j 0) ((j 1).val / 128 * 128 + z.val) (tile_lt (j 1) z))
    * g (ix2 0 ⟨(j 1).val % 128, Nat.mod_lt _ (by decide)⟩) * scale

/-- The name's value. -/
theorem scale_eq : Named.named (F := Ideal) (φ := .f32) κ "q_scale" 0x3E0293EE#32 = scale :=
  IdealRules.named_const.ideal_named_scalar _ _ _ _ rfl

/-- The norm's weight as the call reads it. -/
theorem v1_at : (V m c main_v1 : FVec Ideal S1x128 .f32) = m ((c.tc : Thread nD τ).loc main_arg2) := by
  funext j
  after_reads_at
  refine congrArg (m ((c.tc : Thread nD τ).loc main_arg2)) (funext fun a => ?_)
  match a with
  | ⟨0, _⟩ => exact Fin.ext (by have h : (j 0).val < 1 := (j 0).isLt; show 0 = (j 0).val; omega)
  | ⟨1, _⟩ => rfl

/-- Where the windows of the call stand at each grid point. -/
theorem idx : ∀ t : Fin cfg0.N, win0_0.index t = ![(grid0.coords t 0).val, 0] ∧ win0_1.index t = ![(grid0.coords t 1).val, 0]
    ∧ win0_2.index t = ![0, 0] ∧ win0_3.index t = ![(grid0.coords t 0).val, (grid0.coords t 1).val] :=
  (by decide +kernel : ∀ t : Fin grid0.N, _)

/-- An element of the result window's block in the result. -/
theorem emb (t : Fin cfg0.N) (y : (win0_3.xblock (grid0.coords t)).Idx) :
    (((View.whole main_v2).slice (win0_3.rect t)).emb y 1).val = 1024 * (grid0.coords t 1).val + (y 1).val := by
  have h := (idx t).2.2.2
  refine (win0_3.rect_emb_val t y 1).trans ?_
  rw [h]; exact congrArg (· + _) (Nat.mul_comm _ _)

set_option maxHeartbeats 2000000 in
/-- What the call writes. -/
theorem final : (dats m 0 c).arrAt 3 cfg0.N
    = queries (m ((c.tc : Thread nD τ).loc main_arg0)) (m ((c.tc : Thread nD τ).loc main_arg1)) (m ((c.tc : Thread nD τ).loc main_arg2)) := by
  refine (dats m 0 c).arrAt_eq_of_covers 3 _ (by decide +kernel) fun t _ y => ?_
  blk_simp
  rw [after0_3]
  rw [← V_main_arg0 m c, ← V_main_arg1 m c, ← v1_at m c]
  generalize hW : V m c = W
  unfold_out out0_3
  have e := emb t y
  canon_tiles x h
  all_goals
    open_payloads
    pointwise [queries, qCol, rootOf, scale_eq]
    unfold iblk
    rw [hW]
    blk_point [idx t]
  all_goals omega

end Cert.Kernel7Ideal.Value

namespace Cert.Proof

open Idealize.ShloMosaic Idealize.ShloMosaic.TcCoe Idealize.SL.Sem

/-- The head's width as a real. -/
theorem word_128 : Ideal.ofBits .f32 0x43000000#32 = ((128 : ℝ) : EReal) := by
  simp [Ideal.ofBits, Ideal.ieee, -EReal.coe_mul]; norm_num

/-- The base of the exponentials as a real. -/
theorem word_2 : Ideal.ofBits .f32 0x40000000#32 = ((2 : ℝ) : EReal) := by
  simp [Ideal.ofBits, Ideal.ieee, -EReal.coe_mul]; norm_num

/-- Dividing by the root of the width and by the logarithm of the base is one product with the scale. -/
theorem div_scale (x : EReal) : Ideal.div (Ideal.div x (Ideal.sqrt (Ideal.ofBits .f32 0x43000000#32)))
    (Ideal.log (Ideal.ofBits .f32 0x40000000#32)) = x * Cert.Kernel7Ideal.Value.scale := by
  rw [word_128, word_2]
  simp only [Ideal.sqrt_coe, Ideal.log_coe, show ¬(128 : ℝ) < 0 from by norm_num, show ¬(2 : ℝ) ≤ 0 from by norm_num, ↓reduceIte]
  rw [Ideal.div_coe (show Real.sqrt 128 ≠ 0 from (Real.sqrt_pos.mpr (by norm_num)).ne'),
    Ideal.div_coe (show Real.log 2 ≠ 0 from (Real.log_pos (by norm_num)).ne'), one_div, one_div, mul_assoc, ← EReal.coe_mul]

/-- The plain form, read at an index. -/
theorem queries_plain (h : FVec Ideal Cert.Reference7Ideal.S8192x4096 .bf16) (w : FVec Ideal Cert.Reference7Ideal.S6144x4096 .bf16)
    (g : FVec Ideal Cert.Reference7Ideal.S1x128 .f32) :
    Cert.Reference7Ideal.Read.val_main_v27 (F := Ideal) h w g = Cert.Kernel7Ideal.Value.queries h w g := by
  funext j
  open Cert.Reference7Ideal.Read in
  pointwise [val_main_v0, val_main_v1, val_main_v2, val_main_v3, val_main_v4, val_main_v5, val_main_v6, val_main_v7, val_main_v8, val_main_v9,
    val_main_v10, val_main_v11, val_main_v12, val_main_v13, val_main_v14, val_main_v15, val_main_v16, val_main_v17, val_main_v18,
    val_main_v19, val_main_v20, val_main_v21, val_main_v22, val_main_v23, val_main_v24, val_main_v25, val_main_v26, val_main_v27,
    val_main_cst, val_main_cst_0, val_main_cst_1, val_main_cst_2, val_main_cst_3, Cert.Kernel7Ideal.Value.queries,
    Cert.Kernel7Ideal.Value.qCol, Cert.Spec.rootOf, Ideal.hostUnary_sqrt_def, Ideal.hostUnary_log_def, Ideal.hostDivf_def, div_scale]

theorem frame_reference7 : Cert.quiescent_Reference7Ideal (hReference7Ideal := Cert.Reference7Ideal.Gen.facts) := fun m g _ =>
  (θ_run Cert.Reference7Ideal.defs _ _).mono (fun r h => ⟨fun c => (h c).2, sem_eq_zero_of_no_sems (by decide) r.2⟩)
    (Cert.Reference7Ideal.Value.run (F := Ideal) m g)

/-- The named constant has its value. -/
theorem preserves7 : Cert.preserves_Kernel7_Kernel7Ideal :=
  IdealRules.named_const.statement Cert.Kernel7Ideal.κ "q_scale" .f32 0x3E0293EE#32 (((Real.sqrt 128)⁻¹ * (Real.log 2)⁻¹ : ℝ) : EReal) rfl

/-- The two programs agree. -/
theorem algebraic7 : Cert.algebraic_Kernel7Ideal_Reference7Ideal (hKernel7Ideal := Cert.Kernel7Ideal.Gen.facts)
    (hReference7Ideal := Cert.Reference7Ideal.Gen.facts) := by
  intro m g m' g' _ hargs
  refine ⟨fun c => Cert.Kernel7Ideal.Value.queries (m ((c.tc : Thread _ _).loc Cert.Kernel7Ideal.main_arg0)) (m ((c.tc : Thread _ _).loc Cert.Kernel7Ideal.main_arg1))
      (m ((c.tc : Thread _ _).loc Cert.Kernel7Ideal.main_arg2)),
    (θ_run (Cert.Kernel7Ideal.defs (F := Ideal)) _ _).mono (fun r h c => ⟨(h c).1.trans (Cert.Kernel7Ideal.Value.final m c), (h c).2⟩)
      (Cert.Kernel7Ideal.Value.run_blocks (F := Ideal) m g), ?_⟩
  refine (θ_run (Cert.Reference7Ideal.defs (F := Ideal)) _ _).mono (fun r h c => ⟨(h c).1.trans ?_, (h c).2⟩)
    (Cert.Reference7Ideal.Value.run (F := Ideal) m' g')
  obtain ⟨e0, e1, e2⟩ := hargs c
  refine (Cert.Reference7Ideal.Read.val_main_v27_eq _ _ _).trans ?_
  rw [e0, e1, e2]
  exact queries_plain _ _ _

end Cert.Proof

end
-- ==== Proof.Gates.lean ====
/-
  The mLSTM gates of the prompt: the product of the rows with the gates' columns of the weight, in the first eight of 128 lanes.
-/
module

public import proofs.«01_k».proof.Proof.Gen.Kernel8Ideal.Value
public import proofs.«01_k».proof.Proof.Gen.Reference8Ideal.Read
public import proofs.«01_k».proof.Defs
public import Idealize.ShloMosaic.Lib.Pipeline.ValueKit
public import Idealize.ShloMosaic.Lib.StableHlo.ReadAt
public import Idealize.ShloMosaic.Lib.KernelVsHost

@[expose] public section

set_option maxRecDepth 16384

noncomputable section

namespace Cert.Kernel8Ideal.Value

open Idealize.ShloMosaic Idealize.ShloMosaic.TcCoe Idealize.SL.Sem
open Idealize.ShloMosaic.Pipeline (Dat)
open Cert.Kernel8Ideal Cert.Kernel8Ideal.Gen

variable (m : (ℓ : Loc nD τ sig) → Buf (Elt Ideal) ℓ) (c : Dev nD)

/-- The gates' columns of the weight, and zeros up to lane 128. -/
abbrev gateCol (w : FVec Ideal S1x4096x12296 .f32) (k : Fin 4096) (l : Fin 128) : EReal :=
  if h : l.val < 8 then w (ix3 0 k ⟨6144 + l.val, by omega⟩) else 0

/-- The rows of `h` times the gates' columns, and zeros up to lane 128. -/
abbrev gates (h : FVec Ideal S8192x4096 .bf16) (w : FVec Ideal S1x4096x12296 .f32) : FVec Ideal S8192x128 .f32 :=
  fun j => ∑ k : Fin 4096, h (ix2 (j 0) k) * gateCol w k (j 1)

/-- The word that the host code pads with. -/
theorem pad_zero : FloatOps.sitofp (F := Ideal) FTy.f32 (0#32) = (0 : EReal) := by
  show (((0#32 : BitVec 32).toInt : ℝ) : EReal) = 0
  simp

/-- The array that the host code hands to the call. -/
theorem v4_at (k : Fin 4096) (l : Fin 128) : (V m c main_v4 : FVec Ideal S4096x128 .f32) (ix2 k l)
    = gateCol (m ((c.tc : Thread nD τ).loc main_arg1)) k l := by
  unfold gateCol
  by_cases h : l.val < 8
  · rw [dif_pos h]
    after_reads_at
    refine (dif_pos (by omega)).trans ?_
    after_reads_at
  · rw [dif_neg h]
    after_reads_at
    refine (dif_neg (by omega)).trans ?_
    exact pad_zero

/-- Where the windows of the call stand at each grid point. -/
theorem idx : ∀ t : Fin cfg0.N, win0_0.index t = ![t.val, 0] ∧ win0_1.index t = ![0, 0] ∧ win0_2.index t = ![t.val, 0] :=
  (by decide +kernel : ∀ t : Fin grid0.N, _)

/-- The plain product. -/
abbrev mulCol (h : FVec Ideal S8192x4096 .bf16) (w : FVec Ideal S4096x128 .f32) : FVec Ideal S8192x128 .f32 :=
  fun j => ∑ k : Fin 4096, h (ix2 (j 0) k) * w (ix2 k (j 1))

/-- The result, from the arrays that the call finds. -/
theorem gates_eq : gates (m ((c.tc : Thread nD τ).loc main_arg0)) (m ((c.tc : Thread nD τ).loc main_arg1))
    = mulCol (V m c main_arg0) (V m c main_v4) := by
  funext j
  refine Finset.sum_congr rfl fun k _ => ?_
  exact congrArg₂ (· * ·) (congrFun (V_main_arg0 m c) _).symm (v4_at m c k (j 1)).symm

/-- What the call writes. -/
theorem final : (dats m 0 c).arrAt 2 cfg0.N
    = gates (m ((c.tc : Thread nD τ).loc main_arg0)) (m ((c.tc : Thread nD τ).loc main_arg1)) := by
  rw [gates_eq]
  refine (dats m 0 c).arrAt_eq_of_covers 2 _ (by decide +kernel) fun t _ y => ?_
  blk_simp
  rw [after0_2]
  frame_out
  unfold iblk
  generalize V m c = W
  pointwise [k0_pay1, mulCol]
  blk_point [idx t]

end Cert.Kernel8Ideal.Value

namespace Cert.Proof

open Idealize.ShloMosaic Idealize.ShloMosaic.TcCoe Idealize.SL.Sem

/-- The plain form, read at an index: inside the eight columns the product, outside a zero. -/
theorem gates_plain (h : FVec Ideal Cert.Reference8Ideal.S8192x4096 .bf16) (w : FVec Ideal Cert.Reference8Ideal.S1x4096x12296 .f32) :
    Cert.Reference8Ideal.Read.val_main_v4 (F := Ideal) h w = Cert.Kernel8Ideal.Value.gates h w := by
  funext j
  unfold Cert.Kernel8Ideal.Value.gates Cert.Kernel8Ideal.Value.gateCol
  by_cases hl : (j 1).val < 8
  · simp only [dif_pos hl]
    refine (pad_apply_of_inside ![0, 0] ![0, 120] ![0, 0] _ _ _ _ j (ix2 (j 0) ⟨(j 1).val, hl⟩) (fun a => ?_)).trans ?_
    · match a with
      | ⟨0, _⟩ => show (j 0).val = 0 + (j 0).val * 1; omega
      | ⟨1, _⟩ => show (j 1).val = 0 + (j 1).val * 1; omega
    open Cert.Reference8Ideal.Read in
    pointwise [val_main_v0, val_main_v1, val_main_v2, val_main_v3]
  · simp only [dif_neg hl, mul_zero, Finset.sum_const_zero]
    refine (pad_apply_of_not_inside (s := Cert.Reference8Ideal.S8192x8) ![0, 0] ![0, 120] ![0, 0] _ _ _ _ j 1 fun q => ?_).trans ?_
    · have q2 : ((j 1).val - 0) / (0 + 1) < 8 := q.2.2
      omega
    · exact Cert.Kernel8Ideal.Value.pad_zero

theorem frame_reference8 : Cert.quiescent_Reference8Ideal (hReference8Ideal := Cert.Reference8Ideal.Gen.facts) := fun m g _ =>
  (θ_run Cert.Reference8Ideal.defs _ _).mono (fun r h => ⟨fun c => (h c).2, sem_eq_zero_of_no_sems (by decide) r.2⟩)
    (Cert.Reference8Ideal.Value.run (F := Ideal) m g)

/-- The two programs agree. -/
theorem algebraic8 : Cert.algebraic_Kernel8Ideal_Reference8Ideal (hKernel8Ideal := Cert.Kernel8Ideal.Gen.facts)
    (hReference8Ideal := Cert.Reference8Ideal.Gen.facts) := by
  intro m g m' g' _ hargs
  refine ⟨fun c => Cert.Kernel8Ideal.Value.gates (m ((c.tc : Thread _ _).loc Cert.Kernel8Ideal.main_arg0)) (m ((c.tc : Thread _ _).loc Cert.Kernel8Ideal.main_arg1)),
    (θ_run (Cert.Kernel8Ideal.defs (F := Ideal)) _ _).mono (fun r h c => ⟨(h c).1.trans (Cert.Kernel8Ideal.Value.final m c), (h c).2⟩)
      (Cert.Kernel8Ideal.Value.run_blocks (F := Ideal) m g), ?_⟩
  refine (θ_run (Cert.Reference8Ideal.defs (F := Ideal)) _ _).mono (fun r h c => ⟨(h c).1.trans ?_, (h c).2⟩)
    (Cert.Reference8Ideal.Value.run (F := Ideal) m' g')
  obtain ⟨e0, e1⟩ := hargs c
  refine (Cert.Reference8Ideal.Read.val_main_v4_eq _ _).trans ?_
  rw [e0, e1]
  exact gates_plain _ _

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Agree
public import proofs.«01_k».proof.Proof.Agree2
public import proofs.«01_k».proof.Proof.DownS
public import proofs.«01_k».proof.Proof.DownAgree
public import proofs.«01_k».proof.Proof.InMul
public import proofs.«01_k».proof.Proof.DecodeAlgebraic
public import proofs.«01_k».proof.Proof.Queries
public import proofs.«01_k».proof.Proof.Gates
public import Idealize.ShloMosaic.Adequacy
public import Idealize.ShloMosaic.Init

@[expose] public section

noncomputable section

namespace Cert.Proof

open Idealize.ShloMosaic Idealize.SL.Sem Cert.Kernel

theorem frame_reference : Cert.quiescent_ReferenceIdeal (hReferenceIdeal := Cert.ReferenceIdeal.Gen.facts) := fun m g _ =>
  (θ_run Cert.ReferenceIdeal.defs _ _).mono (fun r h => ⟨fun c => (h c).2.2.2.2.2.2.2, sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  fun m g _ => Cert.Kernel.Gen.frame m g, fun m g _ => Cert.KernelIdeal.Gen.frame m g, frame_reference,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  fun m g _ => Cert.Kernel4.Gen.frame m g, fun m g _ => Cert.Kernel4Ideal.Gen.frame m g, frame_reference4,
  fun m g _ => Cert.Kernel5.Gen.frame m g, fun m g _ => Cert.Kernel5Ideal.Gen.frame m g, frame_reference5,
  fun m g _ => Cert.Kernel6.Gen.frame m g, fun m g _ => Cert.Kernel6Ideal.Gen.frame m g, frame_reference6,
  fun m g _ => Cert.Kernel7.Gen.frame m g, fun m g _ => Cert.Kernel7Ideal.Gen.frame m g, frame_reference7,
  fun m g _ => Cert.Kernel8.Gen.frame m g, fun m g _ => Cert.Kernel8Ideal.Gen.frame m g, frame_reference8,
  trivial, algebraic, trivial, algebraic2, trivial, algebraic3, trivial, algebraic4, trivial, algebraic5,
  trivial, algebraic6, preserves7, algebraic7, trivial, algebraic8⟩

end Cert.Proof

end
